-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_finite : Cert.Pre_sorted_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_ids_in_range.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S320000x128 .f32) (main_arg1 : IVec S320000 32) (main_arg2 : FVec F S128x128 .f32) (main_arg3 : FVec F S128 .f32) : IVec S320000 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  main_v4
-- ==== Pre_sorted_finite.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_
  bcast_S_S320000x128 : S_.BroadcastsInDim S320000x128 (![] : Fin 0 → Fin S320000x128.rank)
  reducesTo_S320000x128_S_d0_1 : S320000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : FVec F S128x128 .f32) (main_arg3 : FVec F S128 .f32) (main_v10 : IVec S_ 1) (main_v16 : IVec S_ 1) : IVec S_ 1 :=
  let main_cst_5 : FVec F S_ .f32 := constant S_ .f32 0xFF800000#32
  let main_v17 : FVec F S128x128 .f32 := broadcastInDim S128x128 ![] bcast_S_S128x128 main_cst_5
  let main_v18 : IVec S128x128 1 := cmpf .ogt main_arg2 main_v17
  let main_cst_6 : FVec F S_ .f32 := constant S_ .f32 0x7F800000#32
  let main_v19 : FVec F S128x128 .f32 := broadcastInDim S128x128 ![] bcast_S_S128x128 main_cst_6
  let main_v20 : IVec S128x128 1 := cmpf .olt main_arg2 main_v19
  let main_v21 : IVec S128x128 1 := andi main_v18 main_v20
  let main_c_7 : IVec S_ 1 := constantI S_ 1 1#1
  let main_v22 : IVec S_ 1 := (fun x v => Host.reduce IntOp.andi x v reducesTo_S128x128_S_d0_1 h_S_) main_v21 main_c_7
  let main_cst_8 : FVec F S_ .f32 := constant S_ .f32 0xFF800000#32
  let main_v23 : FVec F S128 .f32 := broadcastInDim S128 ![] bcast_S_S128 main_cst_8
  let main_v24 : IVec S128 1 := cmpf .ogt main_arg3 main_v23
  let main_cst_9 : FVec F S_ .f32 := constant S_ .f32 0x7F800000#32
  let main_v25 : FVec F S128 .f32 := broadcastInDim S128 ![] bcast_S_S128 main_cst_9
  let main_v26 : IVec S128 1 := cmpf .olt main_arg3 main_v25
  let main_v27 : IVec S128 1 := andi main_v24 main_v26
  let main_c_10 : IVec S_ 1 := constantI S_ 1 1#1
  let main_v28 : IVec S_ 1 := (fun x v => Host.reduce IntOp.andi x v reducesTo_S128_S_d0 h_S_) main_v27 main_c_10
  let main_v29 : IVec S_ 1 := andi main_v10 main_v16
  let main_v30 : IVec S_ 1 := andi main_v29 main_v22
  let main_v31 : IVec S_ 1 := andi main_v30 main_v28
  main_v31

def fn {F : FTy → Type} [FloatOps F] (main_arg0 : FVec F S320000x128 .f32) (main_arg1 : IVec S320000 32) (main_arg2 : FVec F S128x128 .f32) (main_arg3 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![0] · slices_S320000_S319999_0) main_arg1
  let main_v7 : IVec S319999 32 := (extractStridedSlice S319999 ![1] · slices_S320000_S319999_1) main_arg1
  let main_v8 : IVec S319999 1 := cmpi .sle main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  let main_cst : FVec F S_ .f32 := constant S_ .f32 0xFF800000#32
  let main_v11 : FVec F S320000x128 .f32 := broadcastInDim S320000x128 ![] bcast_S_S320000x128 main_cst
  let main_v12 : IVec S320000x128 1 := cmpf .ogt main_arg0 main_v11
  let main_cst_3 : FVec F S_ .f32 := constant S_ .f32 0x7F800000#32
  let main_v13 : FVec F S320000x128 .f32 := broadcastInDim S320000x128 ![] bcast_S_S320000x128 main_cst_3
  let main_v14 : IVec S320000x128 1 := cmpf .olt main_arg0 main_v13
  let main_v15 : IVec S320000x128 1 := andi main_v12 main_v14
  let main_c_4 : IVec S_ 1 := constantI S_ 1 1#1
  let main_v16 : IVec S_ 1 := (fun x v => Host.reduce IntOp.andi x v reducesTo_S320000x128_S_d0_1 h_S_) main_v15 main_c_4
  fn_part1 (F := F) main_arg2 main_arg3 main_v10 main_v16
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S80x1x4000 : Shape := ⟨3, ![80, 1, 4000]⟩
abbrev S80 : Shape := ⟨1, ![80]⟩
abbrev S80x1 : Shape := ⟨2, ![80, 1]⟩
abbrev S80x2 : Shape := ⟨2, ![80, 2]⟩
abbrev S80x1x2 : Shape := ⟨3, ![80, 1, 2]⟩
abbrev S1x128 : Shape := ⟨2, ![1, 128]⟩
abbrev S10000x256 : Shape := ⟨2, ![10000, 256]⟩
abbrev S4000x128 : Shape := ⟨2, ![4000, 128]⟩
abbrev S1x1x4000 : Shape := ⟨3, ![1, 1, 4000]⟩
abbrev S1x1x2 : Shape := ⟨3, ![1, 1, 2]⟩
abbrev S10176x384 : Shape := ⟨2, ![10176, 384]⟩
abbrev S4000x384 : Shape := ⟨2, ![4000, 384]⟩
abbrev S1x4000 : Shape := ⟨2, ![1, 4000]⟩
abbrev S1x1x1 : Shape := ⟨3, ![1, 1, 1]⟩
abbrev S160x1 : Shape := ⟨2, ![160, 1]⟩
abbrev S160x4000 : Shape := ⟨2, ![160, 4000]⟩
abbrev S160x384 : Shape := ⟨2, ![160, 384]⟩
abbrev S10000x128 : Shape := ⟨2, ![10000, 128]⟩
abbrev S10000x1 : Shape := ⟨2, ![10000, 1]⟩

abbrev nBuf : Space → Nat
  | .hbm => 13
  | .vmem => 8
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S80x1x4000, .i32⟩
  | .hbm, ⟨5, _⟩ => ⟨S80, .i32⟩
  | .hbm, ⟨6, _⟩ => ⟨S80, .i32⟩
  | .hbm, ⟨7, _⟩ => ⟨S80x1, .i32⟩
  | .hbm, ⟨8, _⟩ => ⟨S80x1, .i32⟩
  | .hbm, ⟨9, _⟩ => ⟨S80x2, .i32⟩
  | .hbm, ⟨10, _⟩ => ⟨S80x1x2, .i32⟩
  | .hbm, ⟨11, _⟩ => ⟨S1x128, .f32⟩
  | .hbm, ⟨12, _⟩ => ⟨S10000x256, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S128x128, .f32⟩
  | .local _ .vmem, ⟨5, _⟩ => ⟨S1x128, .f32⟩
  | .local _ .vmem, ⟨6, _⟩ => ⟨S10000x256, .f32⟩
  | .local _ .vmem, ⟨7, _⟩ => ⟨S10176x384, .f32⟩
  | .local _ .smem, ⟨0, _⟩ => ⟨S1x1x2, .i32⟩
  | .local _ .smem, ⟨1, _⟩ => ⟨S1x1x2, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![80], ![false]⟩

def k0_mult1 (v18 : BitVec 32) : BitVec 32 :=
  let c0_i32_15 : BitVec 32 := 0#32
  let v21 : BitVec 1 := Scalar.cmpi .sgt v18 c0_i32_15
  let v22 : BitVec 32 := Scalar.extui v21
  let c0_i32_16 : BitVec 32 := 0#32
  let v23 : BitVec 1 := Scalar.cmpi .slt v18 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v18 c8_i32
  let c0_i32_19 : BitVec 32 := 0#32
  let v33 : BitVec 1 := Scalar.cmpi .ne v32 c0_i32_19
  let v34 : BitVec 1 := Scalar.andi v31 v33
  let v20 : BitVec 32 := Scalar.divsi v18 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  v37

def k0_off1 (v18 : BitVec 32) : Fin 2 → Nat :=
  let c0_i32_15 : BitVec 32 := 0#32
  let v21 : BitVec 1 := Scalar.cmpi .sgt v18 c0_i32_15
  let v22 : BitVec 32 := Scalar.extui v21
  let c0_i32_16 : BitVec 32 := 0#32
  let v23 : BitVec 1 := Scalar.cmpi .slt v18 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v18 c8_i32
  let c0_i32_19 : BitVec 32 := 0#32
  let v33 : BitVec 1 := Scalar.cmpi .ne v32 c0_i32_19
  let v34 : BitVec 1 := Scalar.andi v31 v33
  let v20 : BitVec 32 := Scalar.divsi v18 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let v38 : BitVec 32 := v37
  let v50 : Index := Scalar.indexCast v38
  let c0_24 : Index := 0#32
  ![v50.toNat, 0]

def k0_chk1 (v18 : BitVec 32) : Prop :=
  (8 ∣ (k0_mult1 v18).toNat) ∧
  (∀ a, (k0_off1 v18) a + S160x384.size a ≤ S10176x384.size a)
theorem k0_mult1_dvd : ∀ (v18 : BitVec 32) (k0_hw1 : k0_chk1 v18), 8 ∣ (k0_mult1 v18).toNat := fun v18 k0_hw1 => k0_hw1.1
theorem k0_off1_inb : ∀ (v18 : BitVec 32) (k0_hw1 : k0_chk1 v18), ∀ a, (k0_off1 v18) a + S160x384.size a ≤ S10176x384.size a := fun v18 k0_hw1 => k0_hw1.2

def k0_mult2 (v18 : BitVec 32) : BitVec 32 :=
  let c0_i32_15 : BitVec 32 := 0#32
  let v21 : BitVec 1 := Scalar.cmpi .sgt v18 c0_i32_15
  let v22 : BitVec 32 := Scalar.extui v21
  let c0_i32_16 : BitVec 32 := 0#32
  let v23 : BitVec 1 := Scalar.cmpi .slt v18 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v18 c8_i32
  let c0_i32_19 : BitVec 32 := 0#32
  let v33 : BitVec 1 := Scalar.cmpi .ne v32 c0_i32_19
  let v34 : BitVec 1 := Scalar.andi v31 v33
  let v20 : BitVec 32 := Scalar.divsi v18 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c160_i32_28 : BitVec 32 := 160#32
  let v66 : BitVec 32 := Scalar.addi v37 c160_i32_28
  v66
def k0_cond2 (v18 : BitVec 32) (v19 : BitVec 32) : BitVec 1 :=
  let c0_i32_15 : BitVec 32 := 0#32
  let v21 : BitVec 1 := Scalar.cmpi .sgt v18 c0_i32_15
  let v22 : BitVec 32 := Scalar.extui v21
  let c0_i32_16 : BitVec 32 := 0#32
  let v23 : BitVec 1 := Scalar.cmpi .slt v18 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v18 c8_i32
  let c0_i32_19 : BitVec 32 := 0#32
  let v33 : BitVec 1 := Scalar.cmpi .ne v32 c0_i32_19
  let v34 : BitVec 1 := Scalar.andi v31 v33
  let v20 : BitVec 32 := Scalar.divsi v18 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c160_i32 : BitVec 32 := 160#32
  let v57 : BitVec 32 := Scalar.addi v37 c160_i32
  let v58 : BitVec 1 := Scalar.cmpi .sge v19 v57
  let v59 : BitVec 32 := Scalar.extui v58
  let c0_i32_26 : BitVec 32 := 0#32
  let v60 : BitVec 1 := Scalar.cmpi .ne v59 c0_i32_26
  v60

def k0_off2 (v18 : BitVec 32) : Fin 2 → Nat :=
  let c0_i32_15 : BitVec 32 := 0#32
  let v21 : BitVec 1 := Scalar.cmpi .sgt v18 c0_i32_15
  let v22 : BitVec 32 := Scalar.extui v21
  let c0_i32_16 : BitVec 32 := 0#32
  let v23 : BitVec 1 := Scalar.cmpi .slt v18 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v18 c8_i32
  let c0_i32_19 : BitVec 32 := 0#32
  let v33 : BitVec 1 := Scalar.cmpi .ne v32 c0_i32_19
  let v34 : BitVec 1 := Scalar.andi v31 v33
  let v20 : BitVec 32 := Scalar.divsi v18 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c160_i32_28 : BitVec 32 := 160#32
  let v66 : BitVec 32 := Scalar.addi v37 c160_i32_28
  let v67 : BitVec 32 := v66
  let v79 : Index := Scalar.indexCast v67
  let c0_32 : Index := 0#32
  ![v79.toNat, 0]

def k0_chk2 (v18 : BitVec 32) (v19 : BitVec 32) : Prop :=
  (∀ (k0_h2 : k0_cond2 v18 v19 = 1#1), 8 ∣ (k0_mult2 v18).toNat) ∧
  (∀ (k0_h2 : k0_cond2 v18 v19 = 1#1), ∀ a, (k0_off2 v18) a + S160x384.size a ≤ S10176x384.size a)
theorem k0_mult2_dvd : ∀ (v18 : BitVec 32) (v19 : BitVec 32) (k0_hw2 : k0_chk2 v18 v19), ∀ (k0_h2 : k0_cond2 v18 v19 = 1#1), 8 ∣ (k0_mult2 v18).toNat := fun v18 v19 k0_hw2 k0_h2 => k0_hw2.1 k0_h2
theorem k0_off2_inb : ∀ (v18 : BitVec 32) (v19 : BitVec 32) (k0_hw2 : k0_chk2 v18 v19), ∀ (k0_h2 : k0_cond2 v18 v19 = 1#1), ∀ a, (k0_off2 v18) a + S160x384.size a ≤ S10176x384.size a := fun v18 v19 k0_hw2 k0_h2 => k0_hw2.2 k0_h2

def k0_mult3 (arg8 : BitVec 32) : BitVec 32 :=
  arg8

def k0_off3 (arg8 : BitVec 32) : Fin 2 → Nat :=
  let v66 : BitVec 32 := arg8
  let v78 : Index := Scalar.indexCast v66
  let c0_31 : Index := 0#32
  ![v78.toNat, 0]

def k0_chk3 (arg8 : BitVec 32) : Prop :=
  (8 ∣ (k0_mult3 arg8).toNat) ∧
  (∀ a, (k0_off3 arg8) a + S160x384.size a ≤ S10176x384.size a)
theorem k0_mult3_dvd : ∀ (arg8 : BitVec 32) (k0_hw3 : k0_chk3 arg8), 8 ∣ (k0_mult3 arg8).toNat := fun arg8 k0_hw3 => k0_hw3.1
theorem k0_off3_inb : ∀ (arg8 : BitVec 32) (k0_hw3 : k0_chk3 arg8), ∀ a, (k0_off3 arg8) a + S160x384.size a ≤ S10176x384.size a := fun arg8 k0_hw3 => k0_hw3.2

def k0_cond3 (i : grid0.Coords) : BitVec 1 :=
  let arg0 : BitVec 32 := BitVec.ofNat 32 (i 0).val
  let c79_i32 : BitVec 32 := 79#32
  let v63 : BitVec 1 := Scalar.cmpi .eq arg0 c79_i32
  let v64 : BitVec 32 := Scalar.extui v63
  let c0_i32_27 : BitVec 32 := 0#32
  let v65 : BitVec 1 := Scalar.cmpi .ne v64 c0_i32_27
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10000x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S320000x1 : Shape := ⟨2, ![320000, 1]⟩
abbrev S10000x128 : Shape := ⟨2, ![10000, 128]⟩
abbrev S10000x1 : Shape := ⟨2, ![10000, 1]⟩
abbrev S10000x256 : Shape := ⟨2, ![10000, 256]⟩

abbrev nBuf : Space → Nat
  | .hbm => 56
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S320000x128, .f32⟩
  | .hbm, ⟨6, _⟩ => ⟨S1x128, .f32⟩
  | .hbm, ⟨7, _⟩ => ⟨S320000x128, .f32⟩
  | .hbm, ⟨8, _⟩ => ⟨S320000x128, .f32⟩
  | .hbm, ⟨9, _⟩ => ⟨S_, .f32⟩
  | .hbm, ⟨10, _⟩ => ⟨S320000, .f32⟩
  | .hbm, ⟨11, _⟩ => ⟨S_, .f32⟩
  | .hbm, ⟨12, _⟩ => ⟨S10000, .f32⟩
  | .hbm, ⟨13, _⟩ => ⟨S320000x1, .i32⟩
  | .hbm, ⟨14, _⟩ => ⟨S10000, .f32⟩
  | .hbm, ⟨15, _⟩ => ⟨S_, .f32⟩
  | .hbm, ⟨16, _⟩ => ⟨S10000x128, .f32⟩
  | .hbm, ⟨17, _⟩ => ⟨S320000x1, .i32⟩
  | .hbm, ⟨18, _⟩ => ⟨S10000x128, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S10000x1, .f32⟩
  | .hbm, ⟨24, _⟩ => ⟨S10000x128, .f32⟩
  | .hbm, ⟨25, _⟩ => ⟨S10000x128, .f32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000x128, .f32⟩
  | .hbm, ⟨35, _⟩ => ⟨S320000x128, .f32⟩
  | .hbm, ⟨36, _⟩ => ⟨S320000x128, .f32⟩
  | .hbm, ⟨37, _⟩ => ⟨S_, .f32⟩
  | .hbm, ⟨38, _⟩ => ⟨S10000x128, .f32⟩
  | .hbm, ⟨39, _⟩ => ⟨S320000x1, .i32⟩
  | .hbm, ⟨40, _⟩ => ⟨S10000x128, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S_, .f32⟩
  | .hbm, ⟨45, _⟩ => ⟨S_, .f32⟩
  | .hbm, ⟨46, _⟩ => ⟨S10000, .f32⟩
  | .hbm, ⟨47, _⟩ => ⟨S10000, .f32⟩
  | .hbm, ⟨48, _⟩ => ⟨S10000x1, .f32⟩
  | .hbm, ⟨49, _⟩ => ⟨S_, .f32⟩
  | .hbm, ⟨50, _⟩ => ⟨S10000x1, .f32⟩
  | .hbm, ⟨51, _⟩ => ⟨S10000x1, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x256, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Proof.K.Host.lean ====
/- What the host operations leave in the arrays the kernel reads. -/
module

public import proofs.«01_k».proof.Proof.K.Launch

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The segment numbers as launched. -/
abbrev ids (c : Dev nD) : S320000.Idx → Elt F .i32 := m ((c : Thread nD τ).loc main_arg1)

/-- The blocks' pairs of words, as the host operations compute them. -/
theorem V_v6 (c : Dev nD) : (V m c main_v6 : S80x1x2.Idx → Elt F .i32) =
    shapeCast S80x1x2 (concatenate S80x2 1
      [⟨S80x1, broadcastInDim S80x1 ![0] bcast_S80_S80x1_0 (Host.slice S80 ![0] ![4000] (ids m c) slicesBy_S320000_S80_0s4000)⟩,
       ⟨S80x1, broadcastInDim S80x1 ![0] bcast_S80_S80x1_0 (Host.slice S80 ![3999] ![4000] (ids m c) slicesBy_S320000_S80_3999s4000)⟩]
      concatenates_S80x1_S80x1_S80x2_d1) shapeCasts_S80x2_S80x1x2 := by
  unfold V
  after_results
  try rfl

/-- The segment numbers in blocks. -/
theorem V_v0 (c : Dev nD) : (V m c main_v0 : S80x1x4000.Idx → Elt F .i32) =
    shapeCast S80x1x4000 (ids m c) shapeCasts_S320000_S80x1x4000 := by
  unfold V
  after_results
  try rfl

/-- The bias as a row. -/
theorem V_v7 (c : Dev nD) : (V m c main_v7 : S1x128.Idx → Elt F .f32) =
    shapeCast S1x128 (m ((c : Thread nD τ).loc main_arg3) : S128.Idx → Elt F .f32) shapeCasts_S128_S1x128 := by
  unfold V
  after_results
  try rfl

end Cert.Proof.K

end
-- ==== Proof.KI.Words.lean ====
/- Facts about the words the kernel computes from the two bounds of a block: the first window's base is
   the lower bound rounded down to a multiple of eight, the second window's base is 160 above it, and the
   side conditions of the windows hold of ids in range. -/
module

public import proofs.«01_k».proof.Proof.Gen.KernelIdeal
public import Idealize.ShloMosaic.Lib.WordCmp
public import Idealize.ShloMosaic.Lib.WordArith

@[expose] public section

namespace Cert.Proof.KI

open Idealize.ShloMosaic Cert.KernelIdeal Cert.KernelIdeal.Gen

/-- A word below ten thousand divided by eight, as the signed scalar division computes it. -/
theorem divsi_eight (w : BitVec 32) (h : w.toNat < 10000) :
    Scalar.divsi w 8#32 = BitVec.ofNat 32 (w.toNat / 8) := by
  have hm : w.msb = false := by
    rw [BitVec.msb_eq_false_iff_two_mul_lt]; omega
  unfold Scalar.divsi IntOp.divsi
  rw [if_neg (by simp [IntOp.SDivCorner]), BitVec.sdiv_eq]
  rw [hm, show (8#32 : BitVec 32).msb = false from rfl]
  apply BitVec.eq_of_toNat_eq
  simp only [BitVec.udiv_eq, BitVec.toNat_udiv, BitVec.toNat_ofNat, Nat.reducePow, Nat.reduceMod]
  omega

/-- The first window's base is the lower bound rounded down to a multiple of eight. -/
theorem mult1_eq (w : BitVec 32) (h : w.toNat < 10000) :
    k0_mult1 w = BitVec.ofNat 32 (8 * (w.toNat / 8)) := by
  have hd := divsi_eight w h
  have hmul : Scalar.muli (BitVec.ofNat 32 (w.toNat / 8)) 8#32 = BitVec.ofNat 32 (8 * (w.toNat / 8)) := by
    apply BitVec.eq_of_toNat_eq
    simp only [Scalar.muli, IntOp.muli, BitVec.toNat_mul, BitVec.toNat_ofNat]
    omega
  by_cases h0 : w = 0#32
  · subst h0; decide
  · have hpos : 0 < w.toNat := by
      rcases Nat.eq_zero_or_pos w.toNat with e | e
      · exact absurd (BitVec.eq_of_toNat_eq (by simpa using e)) h0
      · exact e
    have hti : w.toInt = w.toNat := BitVec.toInt_eq_toNat_of_lt (by omega)
    have e1 : Scalar.cmpi .sgt w 0#32 = 1#1 := by
      unfold Scalar.cmpi IntOp.cmpi
      have : (0#32 : BitVec 32).slt w = true := by rw [BitVec.slt, hti]; exact decide_eq_true (by simpa using hpos)
      simp only [this]; rfl
    have e2 : Scalar.cmpi .slt w 0#32 = 0#1 := by
      unfold Scalar.cmpi IntOp.cmpi
      have : w.slt (0#32 : BitVec 32) = false := by rw [BitVec.slt, hti]; exact decide_eq_false (by simp)
      simp only [this]; rfl
    unfold k0_mult1
    simp only [e1, e2, hd]
    rw [← hmul]
    simp [Scalar.select, Scalar.andi, IntOp.andi, Scalar.cmpi, IntOp.cmpi, Scalar.subi, IntOp.subi, Scalar.extui]

/-- The first window's base, as a natural number. -/
theorem mult1_toNat (w : BitVec 32) (h : w.toNat < 10000) : (k0_mult1 w).toNat = 8 * (w.toNat / 8) := by
  rw [mult1_eq w h, BitVec.toNat_ofNat]; omega

/-- The second window's base is the first's and 160. -/
theorem mult2_def (w : BitVec 32) : k0_mult2 w = Scalar.addi (k0_mult1 w) 160#32 := rfl

/-- The second window's base, as a natural number. -/
theorem mult2_toNat (w : BitVec 32) (h : w.toNat < 10000) :
    (k0_mult2 w).toNat = 8 * (w.toNat / 8) + 160 := by
  rw [mult2_def, Scalar.addi, IntOp.addi, BitVec.toNat_add, mult1_toNat w h]
  simp only [BitVec.toNat_ofNat]; omega

/-- The first window's offsets are those of a window at the first base. -/
theorem off1_eq (w : BitVec 32) : k0_off1 w = k0_off3 (k0_mult1 w) := rfl

/-- The second window's offsets are those of a window at the second base. -/
theorem off2_eq (w : BitVec 32) : k0_off2 w = k0_off3 (k0_mult2 w) := rfl

/-- A window starts at row `b` of the accumulator, column zero. -/
theorem off3_eq (b : BitVec 32) : k0_off3 b = ![b.toNat, 0] := rfl

/-- A window at a base of at most 9999 lies in the accumulator. -/
theorem off3_inb (b : BitVec 32) (h : b.toNat ≤ 10000) :
    ∀ a, k0_off3 b a + S160x384.size a ≤ S10176x384.size a := by
  intro a; rw [off3_eq]
  fin_cases a
  · show b.toNat + 160 ≤ 10176; omega
  · show 0 + 384 ≤ 384; omega

/-- The comparison of a window's base with the upper bound, read as naturals. -/
theorem sle_iff (b hi : BitVec 32) (hb : b.toNat < 2147483648) (hh : hi.toNat < 2147483648) :
    Scalar.cmpi .sle b hi = 1#1 ↔ b.toNat ≤ hi.toNat := by
  have h1 : b.toInt = b.toNat := BitVec.toInt_eq_toNat_of_lt (by omega)
  have h2 : hi.toInt = hi.toNat := BitVec.toInt_eq_toNat_of_lt (by omega)
  have e : Scalar.cmpi .sle b hi = BitVec.ofBool (b.sle hi) := rfl
  rw [e, BitVec.sle, h1, h2]
  by_cases h : b.toNat ≤ hi.toNat
  · simp [h]
  · simp [h]

/-- The second window is taken exactly when the upper bound is not in the first. -/
theorem cond2_iff (lo hi : BitVec 32) (hl : lo.toNat < 10000) (hh : hi.toNat < 10000) :
    k0_cond2 lo hi = 1#1 ↔ (k0_mult2 lo).toNat ≤ hi.toNat := by
  have e : k0_cond2 lo hi = Scalar.cmpi .ne (Scalar.extui (Scalar.cmpi .sle (k0_mult2 lo) hi)) 0#32 := rfl
  have h2 := mult2_toNat lo hl
  rw [e, ← sle_iff _ _ (by omega) (by omega)]
  rcases BitVec.eq_zero_or_eq_one (Scalar.cmpi .sle (k0_mult2 lo) hi) with h | h <;> rw [h] <;> decide

/-- The side condition of the first window holds of a lower bound in range. -/
theorem chk1_of (lo : BitVec 32) (hl : lo.toNat < 10000) : k0_chk1 lo := by
  have h := mult1_toNat lo hl
  exact ⟨by rw [h]; exact ⟨_, rfl⟩, by rw [off1_eq]; exact off3_inb _ (by omega)⟩

/-- The side condition of the second window holds of bounds in range. -/
theorem chk2_of (lo hi : BitVec 32) (hl : lo.toNat < 10000) (hh : hi.toNat < 10000) : k0_chk2 lo hi := by
  have h := mult2_toNat lo hl
  refine ⟨fun _ => by rw [h]; omega, fun hc => ?_⟩
  rw [cond2_iff lo hi hl hh] at hc
  rw [off2_eq]; exact off3_inb _ (by omega)

/-- The side condition of a later window holds of a base that is a multiple of eight and at most 9999. -/
theorem chk3_of (b : BitVec 32) (h8 : 8 ∣ b.toNat) (hb : b.toNat < 10000) : k0_chk3 b :=
  ⟨h8, off3_inb b (by omega)⟩

end Cert.Proof.KI
-- ==== Proof.KI.Loop.lean ====
/- The accumulator's windows and the loop over them. `winStep` is what one window's step does to the
   accumulator, `rest` what the loop does from a base on; the loop's label meets the specification saying so. -/
module

public import proofs.«01_k».proof.Proof.KI.Words
public import proofs.«01_k».proof.Proof.Gen.KernelIdeal.Skeleton
public import proofs.«01_k».proof.Proof.Gen.KernelIdeal.Launch
public import Idealize.ShloMosaic.Lib.Pipeline.FrameBody
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loops are bounded by a natural number of trips. -/
abbrev 𝒱₀ : Variants := Variants.nat

/-- The accumulator's contents. -/
abbrev Acc (F : FTy → Type) [FloatOps F] : Type := (cc0_scratch0 : Ref sig .tc).ty.Contents (Elt F)

/-- The 160 rows of the accumulator from row `b` on. -/
abbrev rW (b : BitVec 32) (h : ∀ a, k0_off3 b a + S160x384.size a ≤ S10176x384.size a) : Rect S10176x384 :=
  Rect.unit (s := S10176x384) (k0_off3 b) S160x384.size h

/-- Those rows read out of the accumulator. -/
abbrev winRead (b : BitVec 32) (h : ∀ a, k0_off3 b a + S160x384.size a ≤ S10176x384.size a) (X : Acc F) : Vec F S160x384 .f32 :=
  (Memref.whole cc0_scratch0 : Memref sig .tc _ _ _).view.readAt (Elt F) (rW b h).toLoadRect X

/-- The accumulator with the window at `b` stepped: its rows and the block's contribution to them. -/
def winWrite (v15 : FVec F S4000x384 .bf16) (v17 : IVec S1x4000 32) (b : BitVec 32)
    (h : ∀ a, k0_off3 b a + S160x384.size a ≤ S10176x384.size a) (X : Acc F) : Acc F :=
  ((Memref.whole cc0_scratch0).access (rW b h) : View sig .tc _ _ _).write (Elt F) X
    (k0_pay5 v17 v15 b (winRead b h X)) Finset.univ

/-- The same at any base: nothing where the window does not fit. -/
def winStep (v15 : FVec F S4000x384 .bf16) (v17 : IVec S1x4000 32) (b : BitVec 32) (X : Acc F) : Acc F :=
  if h : ∀ a, k0_off3 b a + S160x384.size a ≤ S10176x384.size a then winWrite v15 v17 b h X else X

/-- Up to `k` windows from base `b` on, as long as the base is at most the upper bound `v19`. -/
def rest (v15 : FVec F S4000x384 .bf16) (v17 : IVec S1x4000 32) (v19 : BitVec 32) : ℕ → BitVec 32 → Acc F → Acc F
  | 0, _, X => X
  | k + 1, b, X => if Scalar.cmpi .sle b v19 = 1#1 then rest v15 v17 v19 k (Scalar.addi b 160#32) (winStep v15 v17 b X) else X

section Label

variable (c : Dev nD) (i : grid0.Coords) (v18 : BitVec 32) (h1 : k0_chk1 v18) (v19 : BitVec 32) (h2 : k0_chk2 v18 v19)
  (v17 : IVec S1x4000 32) (v15 : FVec F S4000x384 .bf16)

/-- The accumulator held whole at `X`. -/
abbrev accAt (X : Acc F) : sProp 𝕄 := iprop(((c : Thread nD τ).loc cc0_scratch0) ↦{fullShare} X)

/-- The loop's label with `k` trips at most from base `b`: holding the accumulator at `X`, it returns some base and
    the accumulator after those trips. -/
def spec (k : ℕ) (b : BitVec 32) (X : Acc F) : sWPT 𝕄 (BitVec 32) := do
  sWPT.consume (accAt c X)
  let r ← sWPT.arbitrary
  sWPT.produce (accAt c (rest v15 v17 v19 k b X))
  pure r

/-- The specification spelled out. -/
theorem spec_apply (k : ℕ) (b : BitVec 32) (X : Acc F) (K : BitVec 32 → sProp 𝕄) :
    spec c v19 v17 v15 k b X K
      = iprop(accAt c X ∗ ∀ r : BitVec 32, (accAt c (rest v15 v17 v19 k b X) -∗ K r)) := rfl

/-- The label's body meets the specification. -/
theorem spec_le (hv : v19.toNat < 10000) (E : Set ℕ) :
    ∀ (k : ℕ) (b : BitVec 32), 8 ∣ b.toNat → b.toNat ≤ 20000 → v19.toNat < b.toNat + 160 * k →
      ∀ (X : Acc F) (K : BitVec 32 → sProp 𝕄), spec c v19 v17 v15 k b X K
      ⊢ wp frame (wpE (defs₀ (F := F)) 𝒱₀ (c : Thread nD τ) (some k)) E
          (defs₀ (F := F) .tc 1 ⟨i, v18, h1, v19, h2, v17, v15, Memref.whole cc0_scratch0, Memref.isWhole_whole _, b⟩) K := by
  intro k
  induction k with
  | zero =>
    intro b h8 hb hk X K
    rw [spec_apply]
    show _ ⊢ wp frame (wpE (defs₀ (F := F)) 𝒱₀ (c : Thread nD τ) (some 0)) E
      (cc0_while1 i v18 h1 v19 h2 v17 v15 (Memref.whole cc0_scratch0) (Memref.isWhole_whole _) b) K
    simp only [cc0_while1_eq_skeleton]; unfold cc0_while1_skel
    have htest : ¬Scalar.cmpi .sle b v19 = 1#1 := by rw [sle_iff _ _ (by omega) (by omega)]; omega
    simp only [htest, ↓reduceIte, Prog.pure_eq_ret]
    iintro ⟨H, Hk⟩
    rw [wp_ret]; imodintro
    iapply Hk
    simp only [rest]; iexact H
  | succ k ih =>
    intro b h8 hb hk X K
    rw [spec_apply]
    show _ ⊢ wp frame (wpE (defs₀ (F := F)) 𝒱₀ (c : Thread nD τ) (some (k + 1))) E
      (cc0_while1 i v18 h1 v19 h2 v17 v15 (Memref.whole cc0_scratch0) (Memref.isWhole_whole _) b) K
    simp only [cc0_while1_eq_skeleton]; unfold cc0_while1_skel
    by_cases htest : Scalar.cmpi .sle b v19 = 1#1
    · have hle : b.toNat ≤ v19.toNat := (sle_iff _ _ (by omega) (by omega)).mp htest
      have hadd : (Scalar.addi b 160#32).toNat = b.toNat + 160 := by
        rw [Scalar.addi, IntOp.addi, BitVec.toNat_add]; simp only [BitVec.toNat_ofNat]; omega
      have hin := off3_inb b (by omega)
      simp only [htest, ↓reduceIte, Prog.lift, Prog.bind_op, Prog.bind_ret, Prog.pure_eq_ret]
      iintro ⟨H, Hk⟩
      iapply (wp_assume 𝒱₀ (c : Thread nD τ) (some (k + 1)) E (chk3_of b h8 (by omega)))
      iapply (wp_load 𝒱₀ (c : Thread nD τ) (some (k + 1)) E (m := Memref.whole cc0_scratch0) (Finset.subset_univ _)) $$ H; iintro H
      iapply (wp_load 𝒱₀ (c : Thread nD τ) (some (k + 1)) E (m := Memref.whole cc0_scratch0) (Finset.subset_univ _)) $$ H; iintro H
      iapply (wp_store 𝒱₀ (c : Thread nD τ) (some (k + 1)) E (m := Memref.whole cc0_scratch0) (r := rW b hin) (Mk := Finset.univ) (Finset.subset_univ _)) $$ H; iintro H
      iapply (wp_call_spec 𝒱₀ (c : Thread nD τ) (some (k + 1)) E
        (spec c v19 v17 v15 k (Scalar.addi b 160#32) (winWrite v15 v17 b hin X)) k
        (fun u hu => by cases hu; exact Nat.lt_succ_self k)
        (ih (Scalar.addi b 160#32) (by omega) (by omega) (by omega) (winWrite v15 v17 b hin X)))
      rw [spec_apply]
      isplitl [H]
      · iexact H
      iintro %r H
      rw [wp_ret]; imodintro
      iapply Hk
      rw [rest, if_pos htest, winStep, dif_pos hin]
      iexact H
    · simp only [htest, ↓reduceIte, Prog.pure_eq_ret]
      iintro ⟨H, Hk⟩
      rw [wp_ret]; imodintro
      iapply Hk
      rw [rest, if_neg htest]
      iexact H

end Label

end Cert.Proof.KI

end
-- ==== Proof.KI.Part.lean ====
/- The first part of the kernel body: at the first block it zeroes the accumulator; it reads the block of rows, the
   weights, the bias, the block's ids and its two bounds, and returns the block's features and the bounds. -/
module

public import proofs.«01_k».proof.Proof.KI.Loop

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body zeroes the accumulator, as the kernel computes it. -/
def cond1 (i : grid0.Coords) : BitVec 1 :=
  Scalar.cmpi .ne (Scalar.extui (Scalar.cmpi .eq (BitVec.ofNat 32 (i 0).val) 0#32)) 0#32

/-- The accumulator a block starts from: zero at the first block. -/
def startAcc (i : grid0.Coords) (X : Acc F) : Acc F := if cond1 i = 1#1 then k0_pay6 (F := F) else X

/-- A block's lower bound: the first of its two words. -/
def loW (x3 : S1x1x2.Idx → Elt F .i32) : BitVec 32 :=
  x3 ((Rect.unit (s := S1x1x2) ![0, 0, 0] S1x1x1.size inb_S1x1x2_S1x1x1_0_0_0).emb (Shape.Idx.first (numel1_S1x1x1.symm ▸ Nat.one_pos)))

/-- A block's upper bound: the second of its two words. -/
def hiW (x3 : S1x1x2.Idx → Elt F .i32) : BitVec 32 :=
  x3 ((Rect.unit (s := S1x1x2) ![0, 0, 1] S1x1x1.size inb_S1x1x2_S1x1x1_0_0_1).emb (Shape.Idx.first (numel1_S1x1x1.symm ▸ Nat.one_pos)))

/-- A load of a whole shape through any view reads what the view reads. -/
theorem readAt_unit_zero' {κ : Kind} {sp : Space} {s : Shape} {e : EltTy} (v : View sig κ sp s e) {off : Fin s.rank → Nat}
    (h : off = fun _ => 0) (inb : ∀ a, off a + s.size a ≤ s.size a) (f : v.ty.Contents (Elt F)) :
    v.readAt (Elt F) (Rect.unit off s.size inb).toLoadRect f = v.read (Elt F) f := by
  subst h
  funext x
  rw [View.readAt_apply]
  congr 1
  exact Rect.emb_whole_apply s x

/-- Whether the lower bound's sign differs from eight's, as the kernel computes it. -/
abbrev signW (v18 : BitVec 32) : BitVec 1 :=
  Scalar.cmpi .ne (Scalar.subi (Scalar.extui (Scalar.cmpi .sgt v18 0#32)) (Scalar.extui (Scalar.cmpi .slt v18 0#32)))
    (Scalar.subi (Scalar.extui (Scalar.cmpi .sgt 8#32 0#32)) (Scalar.extui (Scalar.cmpi .slt 8#32 0#32)))

/-- Zeroing the accumulator through the whole rectangle leaves the zeros. -/
theorem zero_write (X : Acc F) :
    ((Memref.whole cc0_scratch0).access (Rect.unit (s := S10176x384) ![0, 0] S10176x384.size inb_S10176x384_S10176x384_0_0) : View sig .tc _ _ _).write
      (Elt F) X (k0_pay6 (F := F)) Finset.univ = k0_pay6 (F := F) :=
  Memref.write_access_unit_zero_univ (Elt F) cc0_scratch0 (funext fun a => by fin_cases a <;> rfl) _ X _

section Part

variable (c : Dev nD) (i : grid0.Coords)
  (arg1 : Memref sig .tc .vmem S4000x128 .f32) (harg1 : arg1.IsWhole) (arg2 : Memref sig .tc .vmem S1x1x4000 .i32) (harg2 : arg2.IsWhole)
  (arg3 : Memref sig .tc .smem S1x1x2 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S10000x256 .f32) (harg6 : arg6.IsWhole)

/-- A staging buffer held whole at contents `f`. -/
abbrev buf {sp : Space} {s : Shape} {e : EltTy} (m : Memref sig .tc sp s e) (f : Buf (Elt F) (m.view.loc (c : Thread nD τ))) : sProp 𝕄 :=
  iprop(m.view.loc (c : Thread nD τ) ↦[m.view.set]{fullShare} f)

set_option maxHeartbeats 2000000 in
/-- The first part: holding the accumulator and the five input buffers, it leaves the accumulator as the block starts
    from it and the inputs as they were, and returns the block's features, its ids and its bounds. -/
theorem part_ok (X : Acc F)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ)))
    (x1 : Vec F S4000x128 .f32) (x2 : Vec F S1x1x4000 .i32) (x4 : Vec F S128x128 .f32) (x5 : Vec F S1x128 .f32)
    (e1 : arg1.view.read (Elt F) f1 = x1) (e2 : arg2.view.read (Elt F) f2 = x2)
    (e4 : arg4.view.read (Elt F) f4 = x4) (e5 : arg5.view.read (Elt F) f5 = x5)
    (lo hi : BitVec 32)
    (elo : arg3.view.readAt (Elt F) (Rect.unit (s := S1x1x2) ![0, 0, 0] S1x1x1.size inb_S1x1x2_S1x1x1_0_0_0).toLoadRect f3 (Shape.Idx.first (numel1_S1x1x1.symm ▸ Nat.one_pos)) = lo)
    (ehi : arg3.view.readAt (Elt F) (Rect.unit (s := S1x1x2) ![0, 0, 1] S1x1x1.size inb_S1x1x2_S1x1x1_0_0_1).toLoadRect f3 (Shape.Idx.first (numel1_S1x1x1.symm ▸ Nat.one_pos)) = hi)
    (hlo : lo.toNat < 10000) (hhi : hi.toNat < 10000)
    (K : (Σ' (arg0 : BitVec 32) (v15 : FVec F S4000x384 .bf16) (v17 : IVec S1x4000 32) (v18 : Elt F .i32) (k0_hw1 : k0_chk1 v18) (v19 : Elt F .i32) (k0_hw2 : k0_chk2 v18 v19) (c8_i32 : BitVec 32) (v20 : BitVec 32), BitVec 1) → sProp 𝕄) :
    iprop((accAt c X ∗ buf c arg1 f1 ∗ buf c arg2 f2 ∗ buf c arg3 f3 ∗ buf c arg4 f4 ∗ buf c arg5 f5)
      ∗ ((accAt c (startAcc i X) ∗ buf c arg1 f1 ∗ buf c arg2 f2 ∗ buf c arg3 f3 ∗ buf c arg4 f4 ∗ buf c arg5 f5)
        -∗ K ⟨BitVec.ofNat 32 (i 0).val, k0_pay7 x1 x4 x5, k0_pay8 (F := F) x2, lo, chk1_of _ hlo, hi,
          chk2_of _ _ hlo hhi, 8#32, Scalar.divsi lo 8#32, signW lo⟩))
      ⊢ wp frame (wpE (defs₀ (F := F)) 𝒱₀ (c : Thread nD τ) none) Set.univ
          (k0_part1 i arg1 harg1 arg2 harg2 arg3 harg3 arg4 harg4 arg5 harg5 arg6 harg6 (Memref.whole cc0_scratch0) (Memref.isWhole_whole _)) K := by
  simp only [k0_part1_eq_skeleton]; unfold k0_part1_skel
  by_cases h : cond1 i = 1#1
  · have hs : startAcc i X = k0_pay6 (F := F) := if_pos h
    unfold cond1 at h
    simp only [h, ↓reduceDIte, smemLoad, smemLoadElt, Prog.lift, Prog.bind_op, Prog.bind_ret, Prog.pure_eq_ret]
    rw [hs]
    iintro ⟨⟨H, H1, H2, H3, H4, H5⟩, Hk⟩
    iapply (wp_load 𝒱₀ (c : Thread nD τ) none Set.univ (m := Memref.whole cc0_scratch0) (Finset.subset_univ _)) $$ H; iintro H
    iapply (wp_store 𝒱₀ (c : Thread nD τ) none Set.univ (m := Memref.whole cc0_scratch0) (r := (Rect.unit (s := S10176x384) ![0, 0] S10176x384.size inb_S10176x384_S10176x384_0_0)) (Mk := Finset.univ) (Finset.subset_univ _)) $$ H; iintro H
    rw [zero_write]
    iapply (wp_load 𝒱₀ (c : Thread nD τ) none Set.univ (m := arg1) (View.setOn_subset_set _ _)) $$ H1; iintro H1
    iapply (wp_load 𝒱₀ (c : Thread nD τ) none Set.univ (m := arg4) (View.setOn_subset_set _ _)) $$ H4; iintro H4
    iapply (wp_load 𝒱₀ (c : Thread nD τ) none Set.univ (m := arg5) (View.setOn_subset_set _ _)) $$ H5; iintro H5
    iapply (wp_load 𝒱₀ (c : Thread nD τ) none Set.univ (m := arg2) (View.setOn_subset_set _ _)) $$ H2; iintro H2
    rw [readAt_unit_zero' arg1.view (funext fun a => by fin_cases a <;> rfl), readAt_unit_zero' arg4.view (funext fun a => by fin_cases a <;> rfl),
      readAt_unit_zero' arg5.view (funext fun a => by fin_cases a <;> rfl), readAt_unit_zero' arg2.view (funext fun a => by fin_cases a <;> rfl),
      e1, e2, e4, e5]
    iapply (wp_load 𝒱₀ (c : Thread nD τ) none Set.univ (m := arg3) (View.setOn_subset_set _ _)) $$ H3; iintro H3
    iapply (wp_assume 𝒱₀ (c : Thread nD τ) none Set.univ (by subst elo; exact chk1_of _ hlo))
    iapply (wp_load 𝒱₀ (c : Thread nD τ) none Set.univ (m := arg3) (View.setOn_subset_set _ _)) $$ H3; iintro H3
    iapply (wp_assume 𝒱₀ (c : Thread nD τ) none Set.univ (by subst elo ehi; exact chk2_of _ _ hlo hhi))
    rw [wp_ret]; imodintro
    subst elo ehi
    iapply Hk
    isplitl [H]; · iexact H
    isplitl [H1]; · iexact H1
    isplitl [H2]; · iexact H2
    isplitl [H3]; · iexact H3
    isplitl [H4]; · iexact H4
    iexact H5
  · have hs : startAcc i X = X := if_neg h
    unfold cond1 at h
    simp only [h, ↓reduceDIte, smemLoad, smemLoadElt, Prog.lift, Prog.bind_op, Prog.bind_ret, Prog.pure_eq_ret]
    rw [hs]
    iintro ⟨⟨H, H1, H2, H3, H4, H5⟩, Hk⟩
    iapply (wp_load 𝒱₀ (c : Thread nD τ) none Set.univ (m := arg1) (View.setOn_subset_set _ _)) $$ H1; iintro H1
    iapply (wp_load 𝒱₀ (c : Thread nD τ) none Set.univ (m := arg4) (View.setOn_subset_set _ _)) $$ H4; iintro H4
    iapply (wp_load 𝒱₀ (c : Thread nD τ) none Set.univ (m := arg5) (View.setOn_subset_set _ _)) $$ H5; iintro H5
    iapply (wp_load 𝒱₀ (c : Thread nD τ) none Set.univ (m := arg2) (View.setOn_subset_set _ _)) $$ H2; iintro H2
    rw [readAt_unit_zero' arg1.view (funext fun a => by fin_cases a <;> rfl), readAt_unit_zero' arg4.view (funext fun a => by fin_cases a <;> rfl),
      readAt_unit_zero' arg5.view (funext fun a => by fin_cases a <;> rfl), readAt_unit_zero' arg2.view (funext fun a => by fin_cases a <;> rfl),
      e1, e2, e4, e5]
    iapply (wp_load 𝒱₀ (c : Thread nD τ) none Set.univ (m := arg3) (View.setOn_subset_set _ _)) $$ H3; iintro H3
    iapply (wp_assume 𝒱₀ (c : Thread nD τ) none Set.univ (by subst elo; exact chk1_of _ hlo))
    iapply (wp_load 𝒱₀ (c : Thread nD τ) none Set.univ (m := arg3) (View.setOn_subset_set _ _)) $$ H3; iintro H3
    iapply (wp_assume 𝒱₀ (c : Thread nD τ) none Set.univ (by subst elo ehi; exact chk2_of _ _ hlo hhi))
    rw [wp_ret]; imodintro
    subst elo ehi
    iapply Hk
    isplitl [H]; · iexact H
    isplitl [H1]; · iexact H1
    isplitl [H2]; · iexact H2
    isplitl [H3]; · iexact H3
    isplitl [H4]; · iexact H4
    iexact H5

end Part

end Cert.Proof.KI

end
-- ==== Proof.KI.Body.lean ====
/- The kernel body at one grid point. Holding the accumulator and the six staging buffers it steps the accumulator by
   the block (`pointStep`) and, at the last point, writes the result out of it (`resL`). -/
module

public import proofs.«01_k».proof.Proof.KI.Part
public import Idealize.ShloMosaic.Lib.Writes

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a block's two first windows do to the accumulator: the second only where its bound reaches it. -/
def twoSteps (v15 : FVec F S4000x384 .bf16) (v17 : IVec S1x4000 32) (lo hi : BitVec 32) (X : Acc F) : Acc F :=
  if k0_cond2 lo hi = 1#1 then winStep v15 v17 (k0_mult2 lo) (winStep v15 v17 (k0_mult1 lo) X)
  else winStep v15 v17 (k0_mult1 lo) X

/-- What a block does to the accumulator: its two first windows, then the loop. -/
def pointStep (v15 : FVec F S4000x384 .bf16) (v17 : IVec S1x4000 32) (lo hi : BitVec 32) (X : Acc F) : Acc F :=
  rest v15 v17 hi 64 (Scalar.addi (k0_mult1 lo) 320#32) (twoSteps v15 v17 lo hi X)

/-- The three parts of the accumulator the result is computed from: sums, sums of squares, counts. -/
abbrev sumsOf (Y : Acc F) : Vec F S10000x128 .f32 :=
  (Memref.whole cc0_scratch0 : Memref sig .tc _ _ _).view.readAt (Elt F) (Rect.unit (s := S10176x384) ![0, 0] S10000x128.size inb_S10176x384_S10000x128_0_0).toLoadRect Y
abbrev sqsOf (Y : Acc F) : Vec F S10000x128 .f32 :=
  (Memref.whole cc0_scratch0 : Memref sig .tc _ _ _).view.readAt (Elt F) (Rect.unit (s := S10176x384) ![0, 128] S10000x128.size inb_S10176x384_S10000x128_0_128).toLoadRect Y
abbrev cntOf (Y : Acc F) : Vec F S10000x1 .f32 :=
  (Memref.whole cc0_scratch0 : Memref sig .tc _ _ _).view.readAt (Elt F) (Rect.unit (s := S10176x384) ![0, 256] S10000x1.size inb_S10176x384_S10000x1_0_256).toLoadRect Y

/-- The two stores of the result, the later first: the standard deviations beside the means. -/
def resL (Y : Acc F) : List (View.Piece (Elt F) S10000x256 .f32) :=
  [⟨Rect.unit (s := S10000x256) ![0, 128] S10000x128.size inb_S10000x256_S10000x128_0_128, k0_pay4 (sumsOf Y) (sqsOf Y) (cntOf Y)⟩,
   ⟨Rect.unit (s := S10000x256) ![0, 0] S10000x128.size inb_S10000x256_S10000x128_0_0, k0_pay3 (sumsOf Y) (cntOf Y)⟩]

/-- The first window's payload is a window's payload at the first base. -/
theorem pay1_eq (v15 : FVec F S4000x384 .bf16) (v17 : IVec S1x4000 32) (lo : BitVec 32) (v : Vec F S160x384 .f32) :
    k0_pay1 v15 v17 lo 8#32 (Scalar.divsi lo 8#32) (signW lo) v = k0_pay5 v17 v15 (k0_mult1 lo) v := rfl

/-- The second window's payload is a window's payload at the second base. -/
theorem pay2_eq (v15 : FVec F S4000x384 .bf16) (v17 : IVec S1x4000 32) (lo : BitVec 32) (v : Vec F S160x384 .f32) :
    k0_pay2 v15 v17 lo 8#32 (Scalar.divsi lo 8#32) (signW lo) v = k0_pay5 v17 v15 (k0_mult2 lo) v := rfl

/-- The first base, as the body spells it. -/
theorem mult1_spell (lo : BitVec 32) :
    Scalar.muli (Scalar.select (Scalar.andi (signW lo) (Scalar.cmpi .ne (Scalar.remsi lo 8#32) 0#32))
      (Scalar.subi (Scalar.divsi lo 8#32) 1#32) (Scalar.divsi lo 8#32)) 8#32 = k0_mult1 lo := rfl

/-- Part of a view's elements are among the view's. -/
theorem access_subset {κ : Kind} {sp : Space} {s : Shape} {e : EltTy} (m : Memref sig κ sp s e) (r : Rect s) :
    (m.access r).set ⊆ m.view.set := by
  rw [View.set_slice]; exact View.setOn_subset_set _ _

section Point

variable (c : Dev nD) (i : grid0.Coords)
  (arg1 : Memref sig .tc .vmem S4000x128 .f32) (harg1 : arg1.IsWhole) (arg2 : Memref sig .tc .vmem S1x1x4000 .i32) (harg2 : arg2.IsWhole)
  (arg3 : Memref sig .tc .smem S1x1x2 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S10000x256 .f32) (harg6 : arg6.IsWhole)

/-- What the result's staging buffer holds after the point. -/
def outF (f6 : Buf (Elt F) (arg6.view.loc (c : Thread nD τ))) (Y : Acc F) : Buf (Elt F) (arg6.view.loc (c : Thread nD τ)) :=
  if k0_cond3 i = 1#1 then arg6.view.writes (Elt F) f6 (resL Y) else f6

set_option maxHeartbeats 4000000 in
/-- The whole body at one point. -/
theorem body_ok (X : Acc F)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (x1 : Vec F S4000x128 .f32) (x2 : Vec F S1x1x4000 .i32) (x4 : Vec F S128x128 .f32) (x5 : Vec F S1x128 .f32)
    (e1 : arg1.view.read (Elt F) f1 = x1) (e2 : arg2.view.read (Elt F) f2 = x2)
    (e4 : arg4.view.read (Elt F) f4 = x4) (e5 : arg5.view.read (Elt F) f5 = x5)
    (lo hi : BitVec 32)
    (elo : arg3.view.readAt (Elt F) (Rect.unit (s := S1x1x2) ![0, 0, 0] S1x1x1.size inb_S1x1x2_S1x1x1_0_0_0).toLoadRect f3 (Shape.Idx.first (numel1_S1x1x1.symm ▸ Nat.one_pos)) = lo)
    (ehi : arg3.view.readAt (Elt F) (Rect.unit (s := S1x1x2) ![0, 0, 1] S1x1x1.size inb_S1x1x2_S1x1x1_0_0_1).toLoadRect f3 (Shape.Idx.first (numel1_S1x1x1.symm ▸ Nat.one_pos)) = hi)
    (hlo : lo.toNat < 10000) (hhi : hi.toNat < 10000) (Y : Acc F)
    (hY : Y = pointStep (k0_pay7 x1 x4 x5) (k0_pay8 (F := F) x2) lo hi (startAcc i X))
    (K : PUnit → sProp 𝕄) :
    iprop((accAt c X ∗ buf c arg1 f1 ∗ buf c arg2 f2 ∗ buf c arg3 f3 ∗ buf c arg4 f4 ∗ buf c arg5 f5 ∗ buf c arg6 f6)
      ∗ ((accAt c Y ∗ buf c arg1 f1 ∗ buf c arg2 f2 ∗ buf c arg3 f3 ∗ buf c arg4 f4 ∗ buf c arg5 f5
          ∗ buf c arg6 (outF c i arg6 f6 Y)) -∗ K ⟨⟩))
      ⊢ wp frame (wpE (defs₀ (F := F)) 𝒱₀ (c : Thread nD τ) none) Set.univ
          (cc0__body i arg1 harg1 arg2 harg2 arg3 harg3 arg4 harg4 arg5 harg5 arg6 harg6 (Memref.whole cc0_scratch0) (Memref.isWhole_whole _)) K := by
  have hm1 := mult1_toNat lo hlo
  have hm2 := mult2_toNat lo hlo
  have hin1 : ∀ a, k0_off3 (k0_mult1 lo) a + S160x384.size a ≤ S10176x384.size a := off3_inb _ (by omega)
  have hadd : (Scalar.addi (k0_mult1 lo) 320#32).toNat = 8 * (lo.toNat / 8) + 320 := by
    rw [Scalar.addi, IntOp.addi, BitVec.toNat_add, hm1]; simp only [BitVec.toNat_ofNat]; omega
  simp only [cc0__body_eq_skeleton]; unfold cc0__body_skel
  rw [wp_bind]
  iintro ⟨⟨H, H1, H2, H3, H4, H5, H6⟩, Hk⟩
  iapply (part_ok c i arg1 harg1 arg2 harg2 arg3 harg3 arg4 harg4 arg5 harg5 arg6 harg6 X f1 f2 f3 f4 f5 x1 x2 x4 x5 e1 e2 e4 e5 lo hi elo ehi hlo hhi)
  isplitl [H H1 H2 H3 H4 H5]
  · isplitl [H]; · iexact H
    isplitl [H1]; · iexact H1
    isplitl [H2]; · iexact H2
    isplitl [H3]; · iexact H3
    isplitl [H4]; · iexact H4
    iexact H5
  iintro ⟨H, H1, H2, H3, H4, H5⟩
  generalize hv15 : k0_pay7 x1 x4 x5 = v15 at hY
  generalize hv17 : k0_pay8 (F := F) x2 = v17 at hY
  generalize hX' : startAcc i X = X' at hY
  by_cases h2 : k0_cond2 lo hi = 1#1
  · have hin2 : ∀ a, k0_off3 (k0_mult2 lo) a + S160x384.size a ≤ S10176x384.size a :=
      off3_inb _ (by rw [cond2_iff lo hi hlo hhi] at h2; omega)
    have hY2 : Y = rest v15 v17 hi 64 (Scalar.addi (k0_mult1 lo) 320#32) (winWrite v15 v17 (k0_mult2 lo) hin2 (winWrite v15 v17 (k0_mult1 lo) hin1 X')) := by
      rw [hY, pointStep, twoSteps, if_pos h2, winStep, dif_pos hin2, winStep, dif_pos hin1]
    simp only [h2, ↓reduceDIte, mult1_spell, pay1_eq, pay2_eq, off1_eq, off2_eq, Prog.lift, Prog.bind_op, Prog.bind_ret, Prog.pure_eq_ret]
    iapply (wp_load 𝒱₀ (c : Thread nD τ) none Set.univ (m := Memref.whole cc0_scratch0) (Finset.subset_univ _)) $$ H; iintro H
    iapply (wp_load 𝒱₀ (c : Thread nD τ) none Set.univ (m := Memref.whole cc0_scratch0) (Finset.subset_univ _)) $$ H; iintro H
    iapply (wp_store 𝒱₀ (c : Thread nD τ) none Set.univ (m := Memref.whole cc0_scratch0) (r := rW (k0_mult1 lo) hin1) (Mk := Finset.univ) (Finset.subset_univ _)) $$ H; iintro H
    iapply (wp_load 𝒱₀ (c : Thread nD τ) none Set.univ (m := Memref.whole cc0_scratch0) (Finset.subset_univ _)) $$ H; iintro H
    iapply (wp_load 𝒱₀ (c : Thread nD τ) none Set.univ (m := Memref.whole cc0_scratch0) (Finset.subset_univ _)) $$ H; iintro H
    iapply (wp_store 𝒱₀ (c : Thread nD τ) none Set.univ (m := Memref.whole cc0_scratch0) (r := rW (k0_mult2 lo) hin2) (Mk := Finset.univ) (Finset.subset_univ _)) $$ H; iintro H
    iapply (wp_call_spec 𝒱₀ (c : Thread nD τ) none Set.univ
      (spec c hi v17 v15 64 (Scalar.addi (k0_mult1 lo) 320#32) (winWrite v15 v17 (k0_mult2 lo) hin2 (winWrite v15 v17 (k0_mult1 lo) hin1 X'))) 64
      (fun u hu => by cases hu)
      (spec_le c i lo (chk1_of _ hlo) hi (chk2_of _ _ hlo hhi) v17 v15 hhi Set.univ 64 (Scalar.addi (k0_mult1 lo) 320#32) (by omega) (by omega) (by omega) (winWrite v15 v17 (k0_mult2 lo) hin2 (winWrite v15 v17 (k0_mult1 lo) hin1 X'))))
    rw [spec_apply]
    isplitl [H]
    · iexact H
    iintro %r H
    rw [← hY2]
    by_cases h3 : k0_cond3 i = 1#1
    · rw [outF, if_pos h3]
      simp only [h3, ↓reduceDIte, Prog.lift, Prog.bind_op, Prog.bind_ret, Prog.pure_eq_ret]
      iapply (wp_load 𝒱₀ (c : Thread nD τ) none Set.univ (m := Memref.whole cc0_scratch0) (Finset.subset_univ _)) $$ H; iintro H
      iapply (wp_load 𝒱₀ (c : Thread nD τ) none Set.univ (m := Memref.whole cc0_scratch0) (Finset.subset_univ _)) $$ H; iintro H
      iapply (wp_load 𝒱₀ (c : Thread nD τ) none Set.univ (m := Memref.whole cc0_scratch0) (Finset.subset_univ _)) $$ H; iintro H
      iapply (wp_load 𝒱₀ (c : Thread nD τ) none Set.univ (m := arg6) (View.setOn_subset_set _ _)) $$ H6; iintro H6
      iapply (wp_store_writes₀ 𝒱₀ (c : Thread nD τ) none Set.univ (m := arg6) (access_subset _ _)) $$ H6; iintro H6
      iapply (wp_load 𝒱₀ (c : Thread nD τ) none Set.univ (m := arg6) (View.setOn_subset_set _ _)) $$ H6; iintro H6
      iapply (wp_store_writes 𝒱₀ (c : Thread nD τ) none Set.univ (m := arg6) (access_subset _ _)) $$ H6; iintro H6
      rw [wp_ret]; imodintro
      iapply Hk
      isplitl [H]; · iexact H
      isplitl [H1]; · iexact H1
      isplitl [H2]; · iexact H2
      isplitl [H3]; · iexact H3
      isplitl [H4]; · iexact H4
      isplitl [H5]; · iexact H5
      iexact H6
    · rw [outF, if_neg h3]
      simp only [h3, ↓reduceDIte, Prog.lift, Prog.bind_op, Prog.bind_ret, Prog.pure_eq_ret]
      rw [wp_ret]; imodintro
      iapply Hk
      isplitl [H]; · iexact H
      isplitl [H1]; · iexact H1
      isplitl [H2]; · iexact H2
      isplitl [H3]; · iexact H3
      isplitl [H4]; · iexact H4
      isplitl [H5]; · iexact H5
      iexact H6
  · have hY2 : Y = rest v15 v17 hi 64 (Scalar.addi (k0_mult1 lo) 320#32) (winWrite v15 v17 (k0_mult1 lo) hin1 X') := by
      rw [hY, pointStep, twoSteps, if_neg h2, winStep, dif_pos hin1]
    simp only [h2, ↓reduceDIte, mult1_spell, pay1_eq, pay2_eq, off1_eq, off2_eq, Prog.lift, Prog.bind_op, Prog.bind_ret, Prog.pure_eq_ret]
    iapply (wp_load 𝒱₀ (c : Thread nD τ) none Set.univ (m := Memref.whole cc0_scratch0) (Finset.subset_univ _)) $$ H; iintro H
    iapply (wp_load 𝒱₀ (c : Thread nD τ) none Set.univ (m := Memref.whole cc0_scratch0) (Finset.subset_univ _)) $$ H; iintro H
    iapply (wp_store 𝒱₀ (c : Thread nD τ) none Set.univ (m := Memref.whole cc0_scratch0) (r := rW (k0_mult1 lo) hin1) (Mk := Finset.univ) (Finset.subset_univ _)) $$ H; iintro H
    iapply (wp_call_spec 𝒱₀ (c : Thread nD τ) none Set.univ
      (spec c hi v17 v15 64 (Scalar.addi (k0_mult1 lo) 320#32) (winWrite v15 v17 (k0_mult1 lo) hin1 X')) 64
      (fun u hu => by cases hu)
      (spec_le c i lo (chk1_of _ hlo) hi (chk2_of _ _ hlo hhi) v17 v15 hhi Set.univ 64 (Scalar.addi (k0_mult1 lo) 320#32) (by omega) (by omega) (by omega) (winWrite v15 v17 (k0_mult1 lo) hin1 X')))
    rw [spec_apply]
    isplitl [H]
    · iexact H
    iintro %r H
    rw [← hY2]
    by_cases h3 : k0_cond3 i = 1#1
    · rw [outF, if_pos h3]
      simp only [h3, ↓reduceDIte, Prog.lift, Prog.bind_op, Prog.bind_ret, Prog.pure_eq_ret]
      iapply (wp_load 𝒱₀ (c : Thread nD τ) none Set.univ (m := Memref.whole cc0_scratch0) (Finset.subset_univ _)) $$ H; iintro H
      iapply (wp_load 𝒱₀ (c : Thread nD τ) none Set.univ (m := Memref.whole cc0_scratch0) (Finset.subset_univ _)) $$ H; iintro H
      iapply (wp_load 𝒱₀ (c : Thread nD τ) none Set.univ (m := Memref.whole cc0_scratch0) (Finset.subset_univ _)) $$ H; iintro H
      iapply (wp_load 𝒱₀ (c : Thread nD τ) none Set.univ (m := arg6) (View.setOn_subset_set _ _)) $$ H6; iintro H6
      iapply (wp_store_writes₀ 𝒱₀ (c : Thread nD τ) none Set.univ (m := arg6) (access_subset _ _)) $$ H6; iintro H6
      iapply (wp_load 𝒱₀ (c : Thread nD τ) none Set.univ (m := arg6) (View.setOn_subset_set _ _)) $$ H6; iintro H6
      iapply (wp_store_writes 𝒱₀ (c : Thread nD τ) none Set.univ (m := arg6) (access_subset _ _)) $$ H6; iintro H6
      rw [wp_ret]; imodintro
      iapply Hk
      isplitl [H]; · iexact H
      isplitl [H1]; · iexact H1
      isplitl [H2]; · iexact H2
      isplitl [H3]; · iexact H3
      isplitl [H4]; · iexact H4
      isplitl [H5]; · iexact H5
      iexact H6
    · rw [outF, if_neg h3]
      simp only [h3, ↓reduceDIte, Prog.lift, Prog.bind_op, Prog.bind_ret, Prog.pure_eq_ret]
      rw [wp_ret]; imodintro
      iapply Hk
      isplitl [H]; · iexact H
      isplitl [H1]; · iexact H1
      isplitl [H2]; · iexact H2
      isplitl [H3]; · iexact H3
      isplitl [H4]; · iexact H4
      isplitl [H5]; · iexact H5
      iexact H6

end Point

end Cert.Proof.KI

end
-- ==== Proof.KI.Launch.lean ====
/- The launch: what the arrays hold when the kernel starts (`V`), the block each window has at a point (`iblk`). -/
module

public import proofs.«01_k».proof.Proof.KI.Body
public import proofs.«01_k».proof.Proof.Gen.KernelIdeal.Points
public import Idealize.ShloMosaic.Lib.Ring

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat)

variable (m : (ℓ : Loc nD τ sig) → Buf (Elt F) ℓ) (ρ : Dev nD → PrngReg)

/-- Core `c`'s buffers when the kernel starts: after the host operations. -/
abbrev V (c : Dev nD) (b : Ref sig .tc) : Buf (Elt F) ((c : Thread nD τ).loc b) := StableHlo.after hostOps0 (fun b => m (c, b)) b

/-- No host operation uses a fresh buffer. -/
theorem hostOps0_fresh : (hostOps0 : List (HloOp τ sig (Elt F))).Forall fun op => op.fresh = ∅ := by
  simp only [List.Forall]; repeat' constructor

set_option maxHeartbeats 800000 in
/-- The program up to the kernel's start. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations leave the first argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- And the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- And the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- And the fourth. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the kernel finds it. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

end Cert.Proof.KI

end
-- ==== Proof.KI.Host.lean ====
/- What the host operations leave in the arrays the kernel reads. -/
module

public import proofs.«01_k».proof.Proof.KI.Launch

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The segment numbers as launched. -/
abbrev ids (c : Dev nD) : S320000.Idx → Elt F .i32 := m ((c : Thread nD τ).loc main_arg1)

/-- The blocks' pairs of words, as the host operations compute them. -/
theorem V_v6 (c : Dev nD) : (V m c main_v6 : S80x1x2.Idx → Elt F .i32) =
    shapeCast S80x1x2 (concatenate S80x2 1
      [⟨S80x1, broadcastInDim S80x1 ![0] bcast_S80_S80x1_0 (Host.slice S80 ![0] ![4000] (ids m c) slicesBy_S320000_S80_0s4000)⟩,
       ⟨S80x1, broadcastInDim S80x1 ![0] bcast_S80_S80x1_0 (Host.slice S80 ![3999] ![4000] (ids m c) slicesBy_S320000_S80_3999s4000)⟩]
      concatenates_S80x1_S80x1_S80x2_d1) shapeCasts_S80x2_S80x1x2 := by
  unfold V
  after_results
  try rfl

/-- The segment numbers in blocks. -/
theorem V_v0 (c : Dev nD) : (V m c main_v0 : S80x1x4000.Idx → Elt F .i32) =
    shapeCast S80x1x4000 (ids m c) shapeCasts_S320000_S80x1x4000 := by
  unfold V
  after_results
  try rfl

/-- The bias as a row. -/
theorem V_v7 (c : Dev nD) : (V m c main_v7 : S1x128.Idx → Elt F .f32) =
    shapeCast S1x128 (m ((c : Thread nD τ).loc main_arg3) : S128.Idx → Elt F .f32) shapeCasts_S128_S1x128 := by
  unfold V
  after_results
  try rfl

end Cert.Proof.KI

end
-- ==== Proof.KI.Data.lean ====
/- The accumulator point by point (`accN`), the proof data (`dats`) and the body obligation. -/
module

public import proofs.«01_k».proof.Proof.KI.Launch

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat)

variable (m : (ℓ : Loc nD τ sig) → Buf (Elt F) ℓ) (ρ : Dev nD → PrngReg)

/-- What point `t` does to the accumulator. -/
def pointAcc (c : Dev nD) (t : Fin (cfg0 (F := F)).N) (X : Acc F) : Acc F :=
  pointStep (k0_pay7 (iblk m c 0 t) (iblk m c 3 t) (iblk m c 4 t)) (k0_pay8 (F := F) (iblk m c 1 t))
    (loW (F := F) (iblk m c 2 t)) (hiW (F := F) (iblk m c 2 t)) (startAcc (grid0.coords t) X)

/-- The accumulator before point `n`; before the first point the zeros the first point starts from. -/
def accN (c : Dev nD) : ℕ → Acc F
  | 0 => k0_pay6 (F := F)
  | n + 1 => if h : n < (cfg0 (F := F)).N then pointAcc m c ⟨n, h⟩ (accN c n) else accN c n

/-- The result computed from the accumulator. -/
def resOf (Y : Acc F) : S10000x256.Idx → Elt F .f32 := View.canon (resL Y)

/-- The one coordinate of a point is its number. -/
theorem coords_val : ∀ t : Fin grid0.N, (grid0.coords t 0).val = t.val := by decide

/-- The first point, and no other, starts from zeros. -/
theorem cond1_iff : ∀ t : Fin grid0.N, cond1 (grid0.coords t) = 1#1 ↔ t.val = 0 := by decide

/-- The last point, and no other, writes the result. -/
theorem cond3_iff : ∀ t : Fin grid0.N, k0_cond3 (grid0.coords t) = 1#1 ↔ t.val = 79 := by decide

/-- The accumulator and the generator's register before point `n`. -/
def PhiS (c : Dev nD) (n : ℕ) (_ : n ≤ (cfg0 (F := F)).N) : sProp 𝕄 :=
  iprop((∃ X : Acc F, ⌜n ≠ 0 → X = accN m c n⌝ ∗ accAt c X) ∗ ∃ r, prngReg c r)

/-- The proof data: the arrays as found, each input window left in place, the result computed from the accumulator. -/
def dats (_ : Fin 1) (c : Dev nD) : Dat τ (Elt F) Unit ℕ (UR sig nD τ) ℕ (cfg0 (F := F)) c where
  A w := V m c (Pipeline.arrRef spec0 w)
  after := fun
    | 0 => iblk m c 0
    | 1 => iblk m c 1
    | 2 => iblk m c 2
    | 3 => iblk m c 3
    | 4 => iblk m c 4
    | 5 => fun t => resOf (accN m c (t.val + 1))
    | ⟨n + 6, h⟩ => absurd h (Nat.not_lt.mpr (Nat.le_add_left _ _))
  Φ t := PhiS m c t.val (Nat.le_of_lt_succ t.isLt)
  q _ := fullShare
  owed _ := 0

theorem Phi_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t
theorem Phi_succ (c : Dev nD) (t : Fin (cfg0 (F := F)).N) :
    (dats m 0 c).Φ t.succ = PhiS m c (t.val + 1) t.isLt := by
  dsimp only [dats]; rfl

/-- An input window's staging buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => rfl) t d).trans rfl
theorem before1 (c : Dev nD) (t : Fin (cfg0 (F := F)).N) (d) : (dats m 0 c).before 1 t d = iblk m c 1 t :=
  ((dats m 0 c).before_in_eq_fetched 1 rfl (fun _ => rfl) (fun _ _ _ => rfl) (fun t => rfl) t d).trans rfl
theorem before2 (c : Dev nD) (t : Fin (cfg0 (F := F)).N) (d) : (dats m 0 c).before 2 t d = iblk m c 2 t :=
  ((dats m 0 c).before_in_eq_fetched 2 rfl (fun _ => rfl) (fun _ _ _ => rfl) (fun t => rfl) t d).trans rfl
theorem before3 (c : Dev nD) (t : Fin (cfg0 (F := F)).N) (d) : (dats m 0 c).before 3 t d = iblk m c 3 t :=
  ((dats m 0 c).before_in_eq_fetched 3 rfl (fun _ => rfl) (fun _ _ _ => rfl) (fun t => rfl) t d).trans rfl
theorem before4 (c : Dev nD) (t : Fin (cfg0 (F := F)).N) (d) : (dats m 0 c).before 4 t d = iblk m c 4 t :=
  ((dats m 0 c).before_in_eq_fetched 4 rfl (fun _ => rfl) (fun _ _ _ => rfl) (fun t => rfl) t d).trans rfl

/-- Both words of every point's pair are segment numbers. -/
def WordsOk : Prop :=
  ∀ (c : Dev nD) (t : Fin (cfg0 (F := F)).N), (loW (F := F) (iblk m c 2 t)).toNat < 10000 ∧ (hiW (F := F) (iblk m c 2 t)).toNat < 10000

/-- The result's two stores cover it. -/
theorem resL_cover (Y : Acc F) : ∀ y : S10000x256.Idx, ∃ p ∈ resL Y, y ∈ p.1.set :=
  View.cover_of_tiled _ ![10000, 128] rfl

/-- One point's step, whatever the accumulator held before the first. -/
theorem accN_succ (c : Dev nD) (t : Fin (cfg0 (F := F)).N) (X : Acc F) (hX : t.val ≠ 0 → X = accN m c t.val) :
    accN m c (t.val + 1) = pointAcc m c t X := by
  rw [accN, dif_pos t.isLt]
  by_cases h0 : t.val = 0
  · have h1 : ∀ Z : Acc F, startAcc (grid0.coords t) Z = k0_pay6 (F := F) := fun Z => by
      rw [startAcc, if_pos ((cond1_iff t).mpr h0)]
    unfold pointAcc
    rw [h1, h1]
  · rw [hX h0]

/-- What the two stores leave in the result's staging buffer reads as the result. -/
theorem out_read (c : Dev nD) (arg6 : Memref sig .tc .vmem S10000x256 .f32) (f6 : Buf (Elt F) (arg6.view.loc (c : Thread nD τ))) (Y : Acc F) :
    arg6.view.read (Elt F) (arg6.view.writes (Elt F) f6 (resL Y)) = resOf Y := by
  rw [View.read_writes_eq_canon arg6.view f6 (resL Y) (resL_cover Y), resOf]

/-- What the data says of the result's window after a point. -/
theorem after5 (c : Dev nD) (t : Fin (cfg0 (F := F)).N) : (dats m 0 c).after 5 t = resOf (accN m c (t.val + 1)) := by
  dsimp only [dats]; rfl

set_option maxHeartbeats 400000 in
/-- The body obligation at every point. -/
theorem body_obligation (hw : WordsOk m) (c : Dev nD) :
    Pipeline.BodyObligationLoose (dats m 0 c) (defs₀ (F := F)) 𝒱₀ () Set.univ := fun t => by
  rw [bigSep_W0, bigSep_W0, Phi_castSucc, Phi_succ]
  simp only [PhiS]
  rw [show (dats m 0 c).owesAt () t.succ = (dats m 0 c).owesAt () t.castSucc from rfl]
  iintro ⟨⟨⟨%X, %hX, H⟩, Hr⟩, Ho, ⟨%d0, H0⟩, ⟨%d1, H1⟩, ⟨%d2, H2⟩, ⟨%d3, H3⟩, ⟨%d4, H4⟩, ⟨%d5, H5⟩⟩
  rw [before0 m c t d0, before1 m c t d1, before2 m c t d2, before3 m c t d3, before4 m c t d4]
  simp only [owns]
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  have hacc := accN_succ m c t X hX
  sl_whnfR [defs₀, Defs.onTc]
  iapply (body_ok c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5))
    X f0 f1 f2 f3 f4 f5
    (iblk m c 0 t) (iblk m c 1 t) (iblk m c 3 t) (iblk m c 4 t) e0 e1 e3 e4
    (loW (F := F) (iblk m c 2 t)) (hiW (F := F) (iblk m c 2 t)) (by rw [← e2]; rfl) (by rw [← e2]; rfl) (hw c t).1 (hw c t).2
    (accN m c (t.val + 1)) hacc)
  isplitl [H H0 H1 H2 H3 H4 H5]
  · isplitl [H]; · iexact H
    isplitl [H0]; · iexact H0
    isplitl [H1]; · iexact H1
    isplitl [H2]; · iexact H2
    isplitl [H3]; · iexact H3
    isplitl [H4]; · iexact H4
    iexact H5
  iintro ⟨H, H0, H1, H2, H3, H4, H5⟩
  isplitl [H Hr]
  · isplitl [H]
    · iexists (accN m c (t.val + 1))
      isplitr
      · ipureintro; exact fun _ => rfl
      iexact H
    iexact Hr
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  by_cases h3 : k0_cond3 (grid0.coords t) = 1#1
  · rw [show idle0 5 (grid0.coords t) = false from by show (!(k0_cond3 (grid0.coords t) == 1#1)) = false; rw [h3]; rfl]
    rw [outF, if_pos h3]
    iexists ((win0_5.stage ((cfg0 (F := F)).slots t 5)).view.writes (Elt F) f5 (resL (accN m c (t.val + 1))))
    isplitr
    · ipureintro; rw [after5]; exact out_read c (win0_5.stage ((cfg0 (F := F)).slots t 5)) f5 (accN m c (t.val + 1))
    iexact H5
  · rw [show idle0 5 (grid0.coords t) = true from by
      show (!(k0_cond3 (grid0.coords t) == 1#1)) = true
      rw [beq_false_of_ne h3]; rfl]
    have hfl : (win0 5).flush t = false := by
      rw [Bool.eq_false_iff]
      intro hh
      have := (flush0_5 (F := F) t).mp hh
      have ht : t.val < 80 := lt_of_lt_of_eq t.isLt N_0
      exact h3 ((cond3_iff t).mpr (by omega))
    rw [hfl, outF, if_neg h3]
    iexists d5, f5
    isplitr
    · ipureintro; exact e5
    iexact H5

end Cert.Proof.KI

end
-- ==== Proof.KI.Run.lean ====
/- The run: every weakly fair execution ends, its arguments untouched, its result array what the data say. -/
module

public import proofs.«01_k».proof.Proof.KI.Data

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat)

variable (m : (ℓ : Loc nD τ sig) → Buf (Elt F) ℓ) (ρ : Dev nD → PrngReg)

/-- What the launch hands the kernel is the invariant before the first point. -/
theorem hin (c : Dev nD) : (Pipeline.ΦA (U := UR sig nD τ) spec0 c : sProp 𝕄) ⊢ (dats m 0 c).Φ 0 := by
  show _ ⊢ PhiS m c 0 (Nat.zero_le _)
  unfold Pipeline.ΦA PhiS
  rw [scopedRest0_eq]
  iintro ⟨⟨%f, H⟩, Hr⟩
  isplitl [H]
  · iexists f
    isplitr
    · ipureintro; exact fun h => absurd rfl h
    iexact H
  iexact Hr

/-- And after the last point the invariant gives it back. -/
theorem hout (c : Dev nD) : (dats m 0 c).Φ (Fin.last (cfg0 (F := F)).N) ⊢ (Pipeline.ΦA (U := UR sig nD τ) spec0 c : sProp 𝕄) := by
  show PhiS m c (cfg0 (F := F)).N le_rfl ⊢ _
  unfold Pipeline.ΦA PhiS
  rw [scopedRest0_eq]
  iintro ⟨⟨%f, %hf, H⟩, Hr⟩
  isplitl [H]
  · iexists f
    iexact H
  iexact Hr

/-- Every run of the program ends with the arrays as the proof data say and every counter at zero. -/
theorem run (hw : WordsOk m) :
    θ_run defs (onTc (τ := τ) (main (F := F))) (s₀ m ρ)
      (fun r => Pipeline.FramePost cfgs (dats m) 0 (V m) r ∧ r.2.sem = (fun _ => 0)) :=
  Pipeline.θ_run_frame_track cfgs (dats m) 0 launch0 defs₀ 𝒱₀ m ρ main (fun c => body_obligation m hw c)
    (fun c w => by fin_cases w <;> rfl) (fun c t => rfl) (V m) (hmain m 𝒱₀) (fun c w => rfl) (hin m) (hout m)
    _ (fun r h => h)

/-- Every run leaves the arguments as launched and every counter at zero. -/
theorem frame_run (hw : WordsOk m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = (fun _ => 0)) :=
  (θ_run defs _ _).mono (fun _ h => ⟨fun c => ⟨((h.1 c).1 0).trans (((dats m 0 c).arrAt_in 0 rfl _).trans (V_main_arg0 m c)),
      ((h.1 c).2 main_arg1 (Pipeline.mem_restRefs_of main_arg1 (by decide) (by exact (by decide : ∀ w : Fin 6, (spec0 w).arr.view.ref ≠ main_arg1)))).trans (V_main_arg1 m c),
      ((h.1 c).1 3).trans (((dats m 0 c).arrAt_in 3 rfl _).trans (V_main_arg2 m c)),
      ((h.1 c).2 main_arg3 (Pipeline.mem_restRefs_of main_arg3 (by decide) (by exact (by decide : ∀ w : Fin 6, (spec0 w).arr.view.ref ≠ main_arg3)))).trans (V_main_arg3 m c)⟩, h.2⟩) (run m ρ hw)

/-- Every run leaves the result array holding what the proof data say. -/
theorem value_run (hw : WordsOk m) :
    θ_run defs (onTc (τ := τ) (main (F := F))) ⟨m, fun _ => 0, ρ⟩ (fun r => ∀ c : Dev nD,
      r.2.mem ((c.tc : Thread nD τ).loc main_v8) = (dats m 0 c).arrAt 5 (cfg0 (F := F)).N) :=
  (θ_run defs _ _).mono (fun _ h c => (h.1 c).1 5) (run m ρ hw)

end Cert.Proof.KI

end
-- ==== Proof.KI.Blocks.lean ====
/- The blocks a grid point reads, element by element: rows of the input, segment numbers, and the block's two words. -/
module

public import proofs.«01_k».proof.Proof.KI.Host
public import proofs.«01_k».proof.Proof.KI.Run
public import Idealize.ShloMosaic.Lib.Pointwise
public import Idealize.ShloMosaic.Lib.Pipeline.Value
public import Idealize.ShloMosaic.Lib.ValueIdxCore

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

open ValueIdx (ix1)

theorem index0 : ∀ t : Fin grid0.N, win0_0.index t 0 = t.val ∧ win0_0.index t 1 = 0 := by decide
theorem index1 : ∀ t : Fin grid0.N, win0_1.index t 0 = t.val ∧ win0_1.index t 1 = 0 ∧ win0_1.index t 2 = 0 := by decide
theorem index2 : ∀ t : Fin grid0.N, win0_2.index t 0 = t.val ∧ win0_2.index t 1 = 0 ∧ win0_2.index t 2 = 0 := by decide
theorem index3 : ∀ t : Fin grid0.N, win0_3.index t 0 = 0 ∧ win0_3.index t 1 = 0 := by decide
theorem index4 : ∀ t : Fin grid0.N, win0_4.index t 0 = 0 ∧ win0_4.index t 1 = 0 := by decide

theorem pt_lt (t : Fin (cfg0 (F := F)).N) : t.val < 80 := lt_of_lt_of_eq t.isLt N_0

/-- A block of the input: its rows, in order. -/
theorem iblk0_eq (c : Dev nD) (t : Fin (cfg0 (F := F)).N) (r : Fin 4000) (k : Fin 128) :
    (iblk m c 0 t : S4000x128.Idx → Elt F .f32) (ValueIdx.ix2 r k) =
      (m ((c : Thread nD τ).loc main_arg0) : S320000x128.Idx → Elt F .f32)
        (ValueIdx.ix2 (n0 := 320000) (n1 := 128) ⟨4000 * t.val + r.val, by have := pt_lt t; omega⟩ k) := by
  have hi := index0 t
  unfold iblk
  refine (View.read_apply _ _).trans ?_
  refine (cast_eq _ _).trans ?_
  show V m c main_arg0 _ = _
  rw [V_main_arg0]
  refine congrArg (m ((c : Thread nD τ).loc main_arg0) : S320000x128.Idx → Elt F .f32) (funext fun a => Fin.ext ?_)
  match a with
  | ⟨0, _⟩ => show win0_0.index t 0 * 4000 + 1 * r.val = 4000 * t.val + r.val; rw [hi.1]; omega
  | ⟨1, _⟩ => show win0_0.index t 1 * 128 + 1 * k.val = k.val; rw [hi.2]; omega

/-- The two words of a block, in the array of all. -/
theorem iblk2_eq (c : Dev nD) (t : Fin (cfg0 (F := F)).N) (y : S1x1x2.Idx) (k : Fin 2) (hk : (y 2).val = k.val) :
    (iblk m c 2 t : S1x1x2.Idx → Elt F .i32) y =
      (V m c main_v6 : S80x1x2.Idx → Elt F .i32) (Idealize.ShloMosaic.ix3 (n0 := 80) (n1 := 1) (n2 := 2) ⟨t.val, pt_lt t⟩ 0 k) := by
  have hi := index2 t
  have h0 : (y 0).val < 1 := (y 0).isLt
  have h1 : (y 1).val < 1 := (y 1).isLt
  unfold iblk
  refine (View.read_apply _ _).trans ?_
  refine (cast_eq _ _).trans ?_
  refine congrArg (V m c main_v6 : S80x1x2.Idx → Elt F .i32) (funext fun a => Fin.ext ?_)
  match a with
  | ⟨0, _⟩ => show win0_2.index t 0 * 1 + 1 * (y 0).val = t.val; rw [hi.1]; omega
  | ⟨1, _⟩ => show win0_2.index t 1 * 1 + 1 * (y 1).val = 0; rw [hi.2.1]; omega
  | ⟨2, _⟩ => show win0_2.index t 2 * 2 + 1 * (y 2).val = k.val; rw [hi.2.2]; omega

/-- The first of a block's words is the segment number of its first row. -/
theorem lo_eq (c : Dev nD) (t : Fin (cfg0 (F := F)).N) :
    loW (iblk m c 2 t) = ids m c (ix1 (n := 320000) ⟨4000 * t.val, by have := pt_lt t; omega⟩) := by
  refine (iblk2_eq m c t _ 0 rfl).trans ?_
  rw [V_v6]
  refine (shapeCast_apply _ _ _ (ValueIdx.ix2 (n0 := 80) (n1 := 2) ⟨t.val, pt_lt t⟩ 0) ?_).trans ?_
  · rw [Idealize.ShloMosaic.rowMajor_val2 _ 2 rfl, Idealize.ShloMosaic.rowMajor_val3 _ 2 2 rfl rfl]
    show t.val * 2 + 0 = t.val * 2 + 0 * 2 + 0
    omega
  · refine (concatenate_pair_apply_left (t := S80x2) (s₁ := S80x1) (s₂ := S80x1) _ _ _ _ _ rfl (ValueIdx.ix2 (n0 := 80) (n1 := 1) ⟨t.val, pt_lt t⟩ 0) (fun b => ?_)).trans ?_
    · match b with
      | ⟨0, _⟩ => rfl
      | ⟨1, _⟩ => rfl
    · refine (broadcastInDim_apply _ _ _ _ (ix1 (n := 80) ⟨t.val, pt_lt t⟩) (fun a => ?_)).trans ?_
      · match a with
        | ⟨0, _⟩ => rfl
      · refine (Host.slice_apply _ _ _ _ _).trans (congrArg _ (funext fun a => Fin.ext ?_))
        match a with
        | ⟨0, _⟩ => show 0 + 4000 * t.val = 4000 * t.val; omega

/-- The second is that of its last row. -/
theorem hi_eq (c : Dev nD) (t : Fin (cfg0 (F := F)).N) :
    hiW (iblk m c 2 t) = ids m c (ix1 (n := 320000) ⟨4000 * t.val + 3999, by have := pt_lt t; omega⟩) := by
  refine (iblk2_eq m c t _ 1 rfl).trans ?_
  rw [V_v6]
  refine (shapeCast_apply _ _ _ (ValueIdx.ix2 (n0 := 80) (n1 := 2) ⟨t.val, pt_lt t⟩ 1) ?_).trans ?_
  · rw [Idealize.ShloMosaic.rowMajor_val2 _ 2 rfl, Idealize.ShloMosaic.rowMajor_val3 _ 2 2 rfl rfl]
    show t.val * 2 + 1 = t.val * 2 + 0 * 2 + 1
    omega
  · refine (concatenate_pair_apply_right (t := S80x2) (s₁ := S80x1) (s₂ := S80x1) _ _ _ _ _ rfl rfl (ValueIdx.ix2 (n0 := 80) (n1 := 1) ⟨t.val, pt_lt t⟩ 0) (fun b hb => ?_) ?_).trans ?_
    · match b, hb with
      | ⟨0, _⟩, _ => rfl
      | ⟨1, _⟩, hb => exact absurd rfl hb
    · rfl
    · refine (broadcastInDim_apply _ _ _ _ (ix1 (n := 80) ⟨t.val, pt_lt t⟩) (fun a => ?_)).trans ?_
      · match a with
        | ⟨0, _⟩ => rfl
      · refine (Host.slice_apply _ _ _ _ _).trans (congrArg _ (funext fun a => Fin.ext ?_))
        match a with
        | ⟨0, _⟩ => show 3999 + 4000 * t.val = 4000 * t.val + 3999; omega

/-- With every segment number below 10000, so are the words the kernel computes with. -/
theorem words_ok (h : ∀ c j, (ids m c j).toNat < 10000) : WordsOk m := fun c t =>
  ⟨by rw [lo_eq]; exact h c _, by rw [hi_eq]; exact h c _⟩

/-- A block of segment numbers. -/
theorem iblk1_eq (c : Dev nD) (t : Fin (cfg0 (F := F)).N) (y : S1x1x4000.Idx) :
    (iblk m c 1 t : S1x1x4000.Idx → Elt F .i32) y =
      ids m c (ix1 (n := 320000) ⟨4000 * t.val + (y 2).val, by have := pt_lt t; have h2 : (y 2).val < 4000 := (y 2).isLt; omega⟩) := by
  have hi := index1 t
  have h0 : (y 0).val < 1 := (y 0).isLt
  have h1 : (y 1).val < 1 := (y 1).isLt
  have h2 : (y 2).val < 4000 := (y 2).isLt
  unfold iblk
  refine (View.read_apply _ _).trans ?_
  refine (cast_eq _ _).trans ?_
  refine (congrFun (V_v0 m c) _).trans ?_
  refine (shapeCast_apply _ _ _ (ix1 (n := 320000) ⟨4000 * t.val + (y 2).val, by have := pt_lt t; omega⟩) ?_)
  refine (Idealize.ShloMosaic.rowMajor_val1 _).trans (Eq.trans ?_ (Idealize.ShloMosaic.rowMajor_val3 (d := ![80, 1, 4000]) _ 4000 4000 rfl rfl).symm)
  show 4000 * t.val + (y 2).val = (win0_1.index t 0 * 1 + 1 * (y 0).val) * 4000 + (win0_1.index t 1 * 1 + 1 * (y 1).val) * 4000 + (win0_1.index t 2 * 4000 + 1 * (y 2).val)
  rw [hi.1, hi.2.1, hi.2.2]; omega

/-- The weights' one block is the weights. -/
theorem iblk3_eq (c : Dev nD) (t : Fin (cfg0 (F := F)).N) (y : S128x128.Idx) :
    (iblk m c 3 t : S128x128.Idx → Elt F .f32) y = (m ((c : Thread nD τ).loc main_arg2) : S128x128.Idx → Elt F .f32) y := by
  have hi := index3 t
  unfold iblk
  refine (View.read_apply _ _).trans ?_
  refine (cast_eq _ _).trans ?_
  show V m c main_arg2 _ = _
  rw [V_main_arg2]
  refine congrArg (m ((c : Thread nD τ).loc main_arg2) : S128x128.Idx → Elt F .f32) (funext fun a => Fin.ext ?_)
  match a with
  | ⟨0, _⟩ => show win0_3.index t 0 * 128 + 1 * (y 0).val = (y 0).val; rw [hi.1]; omega
  | ⟨1, _⟩ => show win0_3.index t 1 * 128 + 1 * (y 1).val = (y 1).val; rw [hi.2]; omega

/-- The bias's one block is the bias, as a row. -/
theorem iblk4_eq (c : Dev nD) (t : Fin (cfg0 (F := F)).N) (y : S1x128.Idx) :
    (iblk m c 4 t : S1x128.Idx → Elt F .f32) y = (m ((c : Thread nD τ).loc main_arg3) : S128.Idx → Elt F .f32) (ix1 (n := 128) (y 1)) := by
  have hi := index4 t
  have h0 : (y 0).val < 1 := (y 0).isLt
  unfold iblk
  refine (View.read_apply _ _).trans ?_
  refine (cast_eq _ _).trans ?_
  refine (congrFun (V_v7 m c) _).trans ?_
  refine (shapeCast_apply _ _ _ (ix1 (n := 128) (y 1)) ?_)
  refine (Idealize.ShloMosaic.rowMajor_val1 _).trans (Eq.trans ?_ (Idealize.ShloMosaic.rowMajor_val2 (d := ![1, 128]) _ 128 rfl).symm)
  show (y 1).val = (win0_4.index t 0 * 1 + 1 * (y 0).val) * 128 + (win0_4.index t 1 * 128 + 1 * (y 1).val)
  rw [hi.1, hi.2]; omega

end Cert.Proof.KI

end
-- ==== Proof.PreRange.lean ====
/- The range precondition decoded: what its holding says of the segment numbers. -/
module

public import proofs.«01_k».proof.Pre_ids_in_range
public import Idealize.ShloMosaic.Lib.ValueIdxCore
public import Idealize.ShloMosaic.Lib.ReduceAll
public import Idealize.ShloMosaic.Lib.WordCmp
public import Idealize.ShloMosaic.Lib.Pointwise

@[expose] public section

namespace Cert.Proof.Pre

open Idealize.ShloMosaic

variable {F : FTy → Type} [FloatOps F]

/-- The conjunction of two one-bit words is true when both are. -/
theorem and_iff (p q : BitVec 1) : IntOp.andi p q = 1#1 ↔ p = 1#1 ∧ q = 1#1 := by
  revert p q; decide

/-- A one-bit word made of a truth value. -/
theorem bit_iff (p : Bool) : BitVec.ofBool p = 1#1 ↔ p = true := by cases p <;> decide

/-- A word between 0 and 10000, signed, is a number below 10000. -/
theorem word_range (w : BitVec 32) (h0 : IntOp.cmpi .sge w 0#32 = 1#1) (h1 : IntOp.cmpi .slt w 10000#32 = 1#1) : w.toNat < 10000 := by
  simp only [IntOp.cmpi, bit_iff, BitVec.sle, BitVec.slt, decide_eq_true_eq, BitVec.toInt, BitVec.toNat_ofNat] at h0 h1
  omega

/-- Two words below 10000 compare as numbers. -/
theorem word_le (v w : BitVec 32) (hv : v.toNat < 10000) (hw : w.toNat < 10000) (h : IntOp.cmpi .sle v w = 1#1) : v.toNat ≤ w.toNat := by
  simp only [IntOp.cmpi, bit_iff, BitVec.sle, BitVec.slt, decide_eq_true_eq, BitVec.toInt] at h
  omega

/-- The elementwise precondition: every segment number is below 10000. -/
theorem range_of [hPre : Cert.Pre_ids_in_range.Facts] (a0 : FVec F ⟨2, ![320000, 128]⟩ .f32) (a1 : IVec ⟨1, ![320000]⟩ 32) (a2 : FVec F ⟨2, ![128, 128]⟩ .f32) (a3 : FVec F ⟨1, ![128]⟩ .f32)
    (h : Cert.Pre_ids_in_range.fn (F := F) a0 a1 a2 a3 = fun _ => 1#1) (j : (⟨1, ![320000]⟩ : Shape).Idx) : (a1 j).toNat < 10000 := by
  have e := congrFun h j
  have e' := (and_iff _ _).mp e
  exact word_range _ e'.1 e'.2

/-- The range precondition's own side conditions. -/
theorem rangeFacts : Cert.Pre_ids_in_range.Facts where
  bcast_S_S320000 := by decide

end Cert.Proof.Pre
-- ==== Proof.PreSorted.lean ====
/- The full precondition decoded: what its holding says of the argument arrays. -/
module

public import proofs.«01_k».proof.Pre_sorted_finite
public import Idealize.ShloMosaic.Lib.ValueIdxCore
public import proofs.«01_k».proof.Proof.PreRange
public import Idealize.ShloMosaic.Lib.ReduceAll
public import Idealize.ShloMosaic.Lib.WordCmp
public import Idealize.ShloMosaic.Lib.Pointwise

@[expose] public section

namespace Cert.Proof.Pre

open Idealize.ShloMosaic

variable {F : FTy → Type} [FloatOps F]

/-- The conjunction of all of it, taken apart. -/
theorem sorted_parts [hPre : Cert.Pre_sorted_finite.Facts] (a0 : FVec F ⟨2, ![320000, 128]⟩ .f32) (a1 : IVec ⟨1, ![320000]⟩ 32) (a2 : FVec F ⟨2, ![128, 128]⟩ .f32) (a3 : FVec F ⟨1, ![128]⟩ .f32)
    (h : Cert.Pre_sorted_finite.fn (F := F) a0 a1 a2 a3 = fun _ => 1#1) :
    (∀ j, (a1 j).toNat < 10000)
    ∧ (∀ (n : ℕ) (hn : n + 1 < 320000), IntOp.cmpi .sle (a1 (ValueIdx.ix1 (n := 320000) ⟨n, by omega⟩)) (a1 (ValueIdx.ix1 (n := 320000) ⟨n + 1, hn⟩)) = 1#1)
    ∧ (∀ j, FloatOps.cmpf .ogt (a0 j) (FloatOps.ofBits (F := F) .f32 0xFF800000#32) = 1#1 ∧ FloatOps.cmpf .olt (a0 j) (FloatOps.ofBits (F := F) .f32 0x7F800000#32) = 1#1)
    ∧ (∀ j, FloatOps.cmpf .ogt (a2 j) (FloatOps.ofBits (F := F) .f32 0xFF800000#32) = 1#1 ∧ FloatOps.cmpf .olt (a2 j) (FloatOps.ofBits (F := F) .f32 0x7F800000#32) = 1#1)
    ∧ (∀ j, FloatOps.cmpf .ogt (a3 j) (FloatOps.ofBits (F := F) .f32 0xFF800000#32) = 1#1 ∧ FloatOps.cmpf .olt (a3 j) (FloatOps.ofBits (F := F) .f32 0x7F800000#32) = 1#1) := by
  have e := congrFun h (fun a => a.elim0)
  unfold Cert.Pre_sorted_finite.fn Cert.Pre_sorted_finite.fn_part1 at e
  dsimp only at e
  have e1 := (and_iff _ _).mp e
  have e2 := (and_iff _ _).mp e1.1
  have e3 := (and_iff _ _).mp e2.1
  have e4 := (and_iff _ _).mp e3.1
  haveI : Subsingleton (Cert.Pre_sorted_finite.S_).Idx := ⟨fun a b => funext fun k => k.elim0⟩
  refine ⟨fun j => ?_, fun n hn => ?_, fun j => ?_, fun j => ?_, fun j => ?_⟩
  · have := (and_iff _ _).mp (Host.reduce_andi_all _ _ _ _ _ e4.1 j)
    exact word_range _ this.1 this.2
  · have := Host.reduce_andi_all _ _ _ _ _ e4.2 (ValueIdx.ix1 (n := 319999) ⟨n, by omega⟩)
    simp only [cmpi, extractStridedSlice] at this
    refine Eq.trans (congrArg₂ (fun x y => IntOp.cmpi .sle (a1 x) (a1 y)) ?_ ?_) this
    · funext k
      match k with
      | ⟨0, _⟩ => exact Fin.ext (by show n = 0 + n; omega)
    · funext k
      match k with
      | ⟨0, _⟩ => exact Fin.ext (by show n + 1 = 1 + n; omega)
  · exact (and_iff _ _).mp (Host.reduce_andi_all _ _ _ _ _ e3.2 j)
  · exact (and_iff _ _).mp (Host.reduce_andi_all _ _ _ _ _ e2.2 j)
  · exact (and_iff _ _).mp (Host.reduce_andi_all _ _ _ _ _ e1.2 j)

/-- The full precondition's own side conditions. -/
theorem sortedFacts : Cert.Pre_sorted_finite.Facts where
  bcast_S_S320000 := by decide
  reducesTo_S320000_S_d0 := by decide
  h_S_ := by decide
  slices_S320000_S319999_0 := by decide
  slices_S320000_S319999_1 := by decide
  reducesTo_S319999_S_d0 := by decide
  bcast_S_S320000x128 := by decide
  reducesTo_S320000x128_S_d0_1 := by decide
  bcast_S_S128x128 := by decide
  reducesTo_S128x128_S_d0_1 := by decide
  bcast_S_S128 := by decide
  reducesTo_S128_S_d0 := by decide

end Cert.Proof.Pre
-- ==== Proof.Frames.lean ====
/- The kernel's frames, at machine floats and at exact reals, from either precondition. -/
module

public import proofs.«01_k».proof.Defs
public import proofs.«01_k».proof.Proof.K.Blocks
public import proofs.«01_k».proof.Proof.KI.Blocks
public import proofs.«01_k».proof.Proof.PreRange
public import proofs.«01_k».proof.Proof.PreSorted

@[expose] public section

noncomputable section

namespace Cert.Proof

open Idealize.ShloMosaic Idealize.ShloMosaic.TcCoe Idealize.SL.Sem

/-- The kernel's frame at machine floats, with every segment number in range. -/
theorem frame_kernel : Cert.quiescent_Kernel (hKernel := Cert.Kernel.Gen.facts) (hPre_ids_in_range := Pre.rangeFacts) := fun m ρ h =>
  K.frame_run m ρ (K.words_ok m fun c j => Pre.range_of (hPre := Pre.rangeFacts) _ _ _ _ (h c) j)

/-- The same over the extended reals. -/
theorem frame_ideal : Cert.quiescent_KernelIdeal (hKernelIdeal := Cert.KernelIdeal.Gen.facts) (hPre_ids_in_range := Pre.rangeFacts) := fun m ρ h =>
  KI.frame_run m ρ (KI.words_ok m fun c j => Pre.range_of (hPre := Pre.rangeFacts) _ _ _ _ (h c) j)

/-- The same, with the segment numbers in range, ascending, and finite floats. -/
theorem frame_ideal_sorted : Cert.quiescent_KernelIdeal_pre_sorted_finite (hKernelIdeal := Cert.KernelIdeal.Gen.facts)
    (hPre_sorted_finite := Pre.sortedFacts) := fun m ρ h =>
  KI.frame_run m ρ (KI.words_ok m fun c j => (Pre.sorted_parts (hPre := Pre.sortedFacts) _ _ _ _ (h c)).1 j)

end Cert.Proof

end
-- ==== Proof.RefFrame.lean ====
/- The reference's frame. -/
module

public import proofs.«01_k».proof.Defs
public import proofs.«01_k».proof.Proof.Gen.ReferenceIdeal.Run
public import proofs.«01_k».proof.Proof.Gen.ReferenceIdeal
public import Idealize.ShloMosaic.Lib.Quiescent

@[expose] public section

noncomputable section

namespace Cert.Proof

open Idealize.ShloMosaic Idealize.SL.Sem

/-- The reference ends with its arguments unchanged and, having no semaphore, with every counter at zero. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) := by
  refine (θ_run Cert.ReferenceIdeal.defs _ _).mono (fun r h => ⟨fun c => (h c).2,
    Idealize.ShloMosaic.sem_eq_zero_of_no_sems (by decide) r.2⟩) (Cert.ReferenceIdeal.Value.run m g)

end Cert.Proof

end
-- ==== Proof.KI.Cols.lean ====
/- The payloads over the reals, element by element: the columns a block contributes, a window's step, the result. -/
module

public import proofs.«01_k».proof.Proof.KI.Data
public import Idealize.ShloMosaic.Lib.Pointwise
public import Idealize.ShloMosaic.Lib.IdealHost

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A finite sum of reals is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of features, its squares and ones, side by side. -/
def colsR (f : Fin 128 → ℝ) (j : Fin 384) : ℝ :=
  if h : j.val < 128 then f ⟨j.val, h⟩ else if h' : j.val - 128 < 128 then f ⟨j.val - 128, h'⟩ * f ⟨j.val - 128, h'⟩ else 1

/-- A step's addend at row `s` of the window at `b`. -/
theorem pay5_apply (v17 : IVec S1x4000 32) (v15 : FVec Ideal S4000x384 .bf16) (b : BitVec 32) (v : Vec Ideal S160x384 .f32)
    (w : Fin 4000 → Fin 384 → ℝ) (hw : ∀ r j, v15 (ix2 r j) = ((w r j : ℝ) : EReal)) (s : Fin 160) (j : Fin 384) :
    k0_pay5 (F := Ideal) v17 v15 b v (ix2 s j)
      = v (ix2 s j) + ((∑ r : Fin 4000, if v17 (ix2 0 r) - b = BitVec.ofNat 32 s.val then w r j else 0 : ℝ) : EReal) := by
  pointwise [k0_pay5]
  refine congrArg (v (ix2 s j) + ·) ?_
  rw [coe_sum]
  refine Finset.sum_congr rfl fun r _ => ?_
  rw [hw]
  by_cases h : v17 (ix2 0 r) - b = BitVec.ofNat 32 s.val
  · rw [if_pos h, show IntOp.cmpi .eq (IntOp.subi (v17 (ix2 0 r)) b) (BitVec.ofNat 32 s.val) = 1#1 from by
      simp only [IntOp.cmpi, IntOp.subi, h, beq_self_eq_true]; rfl]
    rfl
  · rw [if_neg h, show IntOp.cmpi .eq (IntOp.subi (v17 (ix2 0 r)) b) (BitVec.ofNat 32 s.val) = 0#1 from by
      simp only [IntOp.cmpi, IntOp.subi]; rw [beq_eq_false_iff_ne.mpr h]; rfl]
    rfl

theorem pay7_apply (x : Vec Ideal S4000x128 .f32) (W : Vec Ideal S128x128 .f32) (b : Vec Ideal S1x128 .f32)
    (xR : Fin 4000 → Fin 128 → ℝ) (hx : ∀ r k, x (ix2 r k) = ((xR r k : ℝ) : EReal))
    (WR : Fin 128 → Fin 128 → ℝ) (hW : ∀ d k, W (ix2 d k) = ((WR d k : ℝ) : EReal))
    (bR : Fin 128 → ℝ) (hb : ∀ d, b (ix2 0 d) = ((bR d : ℝ) : EReal)) (r : Fin 4000) (j : Fin 384) :
    k0_pay7 (F := Ideal) x W b (ix2 r j) = ((colsR (fun d => (∑ k, xR r k * WR d k) + bR d) j : ℝ) : EReal) := by
  pointwise [k0_pay7]
  have hf : ∀ d : Fin 128, (∑ k, x (ix2 r k) * W (ix2 d k)) + b (ix2 0 d)
      = (((∑ k, xR r k * WR d k) + bR d : ℝ) : EReal) := fun d => by
    rw [EReal.coe_add, coe_sum, hb]
    simp only [hx, hW, EReal.coe_mul]
  unfold colsR
  split
  · rw [hf]
  · split
    · rw [hf, EReal.coe_mul]
    · rfl

theorem pay3_apply (S : Vec Ideal S10000x128 .f32) (C : Vec Ideal S10000x1 .f32) (s : Fin 10000) (d : Fin 128) :
    k0_pay3 (F := Ideal) S C (ix2 s d) = Ideal.div (S (ix2 s d)) (max (C (ix2 s 0)) 1) := by
  pointwise [k0_pay3]
theorem pay4_apply (S Q : Vec Ideal S10000x128 .f32) (C : Vec Ideal S10000x1 .f32) (s : Fin 10000) (d : Fin 128) :
    k0_pay4 (F := Ideal) S Q C (ix2 s d) = Ideal.sqrt (Ideal.div
      (max (Q (ix2 s d) - S (ix2 s d) * Ideal.div (S (ix2 s d)) (max (C (ix2 s 0)) 1)) 0)
      (max (C (ix2 s 0) - 1) 1 + Ideal.ofBits .f32 0x358637BD#32)) := by
  pointwise [k0_pay4, k0_pay3]

theorem pay6_apply (s : Fin 10176) (j : Fin 384) : k0_pay6 (F := Ideal) (ix2 s j) = 0 := by
  pointwise [k0_pay6]
theorem pay8_apply (v : Vec Ideal S1x1x4000 .i32) (r : Fin 4000) : k0_pay8 (F := Ideal) v (ix2 0 r) = v (ix3 0 0 r) := by
  pointwise [k0_pay8]

end Cert.Proof.KI

end
-- ==== Proof.KI.Steps.lean ====
/- What a block does to the accumulator over the reals: to row `s` it adds the block's rows whose segment is `s`,
   provided every segment of the block lies between the block's two words. -/
module

public import proofs.«01_k».proof.Proof.KI.Cols

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- An element of the accumulator. -/
def cell (X : Acc Ideal) (s : Fin 10176) (j : Fin 384) : EReal := X (ix2 (n0 := 10176) (n1 := 384) s j)

section Window

variable (v15 : FVec Ideal S4000x384 .bf16) (v17 : IVec S1x4000 32)
  (w : Fin 4000 → Fin 384 → ℝ) (hw : ∀ r j, v15 (ix2 r j) = ((w r j : ℝ) : EReal))
  (hid : ∀ r : Fin 4000, (v17 (ix2 0 r)).toNat < 10000)

/-- The block's rows of segment `s`, added up. -/
def blockSum (v17 : IVec S1x4000 32) (w : Fin 4000 → Fin 384 → ℝ) (s : ℕ) (j : Fin 384) : ℝ :=
  ∑ r : Fin 4000, if (v17 (ix2 0 r)).toNat = s then w r j else 0

include hid in
/-- A row's segment is `b + s` exactly when the difference is the word `s`. -/
theorem diff_iff (b : BitVec 32) (hb : b.toNat ≤ 10000) (s : ℕ) (hs : s < 160) (r : Fin 4000) :
    v17 (ix2 0 r) - b = BitVec.ofNat 32 s ↔ (v17 (ix2 0 r)).toNat = b.toNat + s := by
  have h := hid r
  generalize v17 (ix2 0 r) = v at *
  rw [← BitVec.toNat_inj, BitVec.toNat_sub, BitVec.toNat_ofNat]
  constructor <;> intro h1 <;> omega

include hw hid in
/-- One window's step at one element. -/
theorem winStep_apply (b : BitVec 32) (hb : b.toNat ≤ 10000) (X : Acc Ideal) (s : Fin 10176) (j : Fin 384) :
    cell (winStep v15 v17 b X) s j
      = cell X s j
        + ((if b.toNat ≤ s.val ∧ s.val < b.toNat + 160 then blockSum v17 w s.val j else 0 : ℝ) : EReal) := by
  have hin := off3_inb b hb
  unfold winStep cell
  rw [dif_pos hin]
  unfold winWrite
  by_cases hs : b.toNat ≤ s.val ∧ s.val < b.toNat + 160
  · rw [if_pos hs]
    have hemb : (ix2 s j : S10176x384.Idx) = ((Memref.whole cc0_scratch0).access (rW b hin) : View sig .tc _ _ _).emb
        (ix2 (n0 := 160) (n1 := 384) ⟨s.val - b.toNat, by omega⟩ j) := by
      funext a
      refine Fin.ext ?_
      match a with
      | ⟨0, _⟩ => show s.val = b.toNat + 1 * (s.val - b.toNat); omega
      | ⟨1, _⟩ => show j.val = 0 + 1 * j.val; omega
    rw [hemb]
    refine (View.write_emb_of_mem _ _ (Finset.mem_univ _)).trans ?_
    refine (cast_eq _ _).trans ?_
    refine (pay5_apply v17 v15 b _ w hw _ j).trans ?_
    refine congrArg₂ (· + ·) ?_ ?_
    · refine (View.readAt_apply _ _ _).trans ?_
      refine (View.read_apply _ _).trans ?_
      exact cast_eq _ _
    · refine congrArg (fun x : ℝ => (x : EReal)) ?_
      unfold blockSum
      refine Finset.sum_congr rfl fun r _ => ?_
      have := diff_iff v17 hid b hb (s.val - b.toNat) (by omega) r
      rw [show b.toNat + (s.val - b.toNat) = s.val by omega] at this
      simp only [this]
  · rw [if_neg hs, EReal.coe_zero, add_zero]
    refine View.write_of_not_mem _ _ _ ?_
    intro hmem
    obtain ⟨x, -, hx⟩ := Finset.mem_map.mp hmem
    have h0 := congrArg (fun y : S10176x384.Idx => (y 0).val) hx
    have h1 : b.toNat + 1 * (x 0).val = s.val := h0
    have h2 : (x 0).val < 160 := (x 0).isLt
    omega

variable (hi : BitVec 32) (hhi : hi.toNat < 10000) (hT : ∀ s j, hi.toNat < s → blockSum v17 w s j = 0)

include hw hid hhi hT in
/-- The loop at one element. -/
theorem rest_apply (s : Fin 10176) (j : Fin 384) : ∀ (k : ℕ) (b : BitVec 32) (X : Acc Ideal), b.toNat ≤ 20000 →
    hi.toNat < b.toNat + 160 * k →
    cell (rest v15 v17 hi k b X) s j
      = cell X s j + ((if b.toNat ≤ s.val then blockSum v17 w s.val j else 0 : ℝ) : EReal) := by
  intro k
  induction k with
  | zero =>
    intro b X hb hk
    have h0 : (if b.toNat ≤ s.val then blockSum v17 w s.val j else 0 : ℝ) = 0 := by
      split
      · exact hT _ _ (by omega)
      · rfl
    rw [h0, EReal.coe_zero, add_zero]; rfl
  | succ k ih =>
    intro b X hb hk
    unfold rest
    by_cases hle : b.toNat ≤ hi.toNat
    · rw [if_pos ((sle_iff _ _ (by omega) (by omega)).mpr hle)]
      have hadd : (Scalar.addi b 160#32).toNat = b.toNat + 160 := by
        rw [Scalar.addi, IntOp.addi, BitVec.toNat_add]; simp only [BitVec.toNat_ofNat]; omega
      rw [ih _ _ (by omega) (by omega), winStep_apply v15 v17 w hw hid b (by omega), add_assoc, ← EReal.coe_add, hadd]
      congr 2
      split_ifs <;> first | omega | simp
    · rw [if_neg (fun h => hle ((sle_iff _ _ (by omega) (by omega)).mp h))]
      have h0 : (if b.toNat ≤ s.val then blockSum v17 w s.val j else 0 : ℝ) = 0 := by
        split
        · exact hT _ _ (by omega)
        · rfl
      rw [h0, EReal.coe_zero, add_zero]

include hw hid hhi hT in
/-- A block at one element. -/
theorem pointStep_apply (lo : BitVec 32) (hlo : lo.toNat < 10000) (hL : ∀ s j, s < lo.toNat → blockSum v17 w s j = 0)
    (X : Acc Ideal) (s : Fin 10176) (j : Fin 384) :
    cell (pointStep v15 v17 lo hi X) s j
      = cell X s j + ((blockSum v17 w s.val j : ℝ) : EReal) := by
  have hm1 := mult1_toNat lo hlo
  have hm2 := mult2_toNat lo hlo
  have hadd : (Scalar.addi (k0_mult1 lo) 320#32).toNat = 8 * (lo.toNat / 8) + 320 := by
    rw [Scalar.addi, IntOp.addi, BitVec.toNat_add, hm1]; simp only [BitVec.toNat_ofNat]; omega
  unfold pointStep
  rw [rest_apply v15 v17 w hw hid hi hhi hT s j 64 _ _ (by omega) (by omega), hadd]
  unfold twoSteps
  by_cases hc : k0_cond2 lo hi = 1#1
  · have hle := (cond2_iff lo hi hlo hhi).mp hc
    rw [if_pos hc, winStep_apply v15 v17 w hw hid _ (by omega), winStep_apply v15 v17 w hw hid _ (by omega),
      add_assoc, add_assoc, ← EReal.coe_add, ← EReal.coe_add, hm1, hm2]
    congr 2
    by_cases hs : s.val < lo.toNat
    · rw [hL _ _ hs]; simp
    · split_ifs <;> first | omega | simp
  · have hgt : ¬(k0_mult2 lo).toNat ≤ hi.toNat := fun h => hc ((cond2_iff lo hi hlo hhi).mpr h)
    rw [if_neg hc, winStep_apply v15 v17 w hw hid _ (by omega), add_assoc, ← EReal.coe_add, hm1]
    congr 2
    by_cases hs : s.val < lo.toNat
    · rw [hL _ _ hs]; simp
    · by_cases hs' : hi.toNat < s.val
      · rw [hT _ _ hs']; simp
      · split_ifs <;> first | omega | simp

end Window

end Cert.Proof.KI

end
-- ==== Proof.KI.Total.lean ====
/- The accumulator after every block, over the reals: in row `s` the sums over all the rows of segment `s`. -/
module

public import proofs.«01_k».proof.Proof.KI.Steps
public import proofs.«01_k».proof.Proof.KI.Blocks
public import Idealize.ShloMosaic.Lib.Pointwise.IndexBridge

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A row's features. -/
def featR (xR : Fin 320000 → Fin 128 → ℝ) (WR : Fin 128 → Fin 128 → ℝ) (bR : Fin 128 → ℝ) (n : Fin 320000) (d : Fin 128) : ℝ :=
  (∑ k, xR n k * WR d k) + bR d

section Total

variable (m : (ℓ : Loc nD τ sig) → Buf (Elt Ideal) ℓ) (c : Dev nD)

/-- A row's segment. -/
def seg (n : Fin 320000) : ℕ := (ids m c (ValueIdx.ix1 n)).toNat

variable (xR : Fin 320000 → Fin 128 → ℝ) (WR : Fin 128 → Fin 128 → ℝ) (bR : Fin 128 → ℝ)
  (hx : ∀ n k, (m ((c : Thread nD τ).loc main_arg0) : S320000x128.Idx → Elt Ideal .f32) (ValueIdx.ix2 n k) = ((xR n k : ℝ) : EReal))
  (hW : ∀ d k, (m ((c : Thread nD τ).loc main_arg2) : S128x128.Idx → Elt Ideal .f32) (ValueIdx.ix2 d k) = ((WR d k : ℝ) : EReal))
  (hb : ∀ d, (m ((c : Thread nD τ).loc main_arg3) : S128.Idx → Elt Ideal .f32) (ValueIdx.ix1 d) = ((bR d : ℝ) : EReal))
  (hseg : ∀ n, seg m c n < 10000) (hmono : ∀ n n', n ≤ n' → seg m c n ≤ seg m c n')

/-- What row `n` adds to row `s`, zero past the last row. -/
def rowAdd (s : ℕ) (j : Fin 384) (n : ℕ) : ℝ :=
  if h : n < 320000 then if seg m c ⟨n, h⟩ = s then colsR (featR xR WR bR ⟨n, h⟩) j else 0 else 0

theorem pay8_seg (t : Fin (cfg0 (F := Ideal)).N) (r : Fin 4000) :
    (k0_pay8 (F := Ideal) (iblk m c 1 t) (ix2 0 r)).toNat = seg m c ⟨4000 * t.val + r.val, by have := pt_lt t; omega⟩ := by
  rw [pay8_apply]
  exact congrArg BitVec.toNat (iblk1_eq m c t (ix3 0 0 r))

/-- A block's sum is its rows' addends. -/
theorem blockSum_eq (t : Fin (cfg0 (F := Ideal)).N) (s : ℕ) (j : Fin 384) :
    blockSum (k0_pay8 (F := Ideal) (iblk m c 1 t))
        (fun r j => colsR (featR xR WR bR ⟨4000 * t.val + r.val, by have := pt_lt t; omega⟩) j) s j
      = ∑ r ∈ Finset.range 4000, rowAdd m c xR WR bR s j (4000 * t.val + r) := by
  rw [Finset.sum_range]
  unfold blockSum
  refine Finset.sum_congr rfl fun r _ => ?_
  rw [pay8_seg]
  unfold rowAdd
  rw [dif_pos (by have := pt_lt t; omega)]

include hx hW hb hseg hmono in
/-- One block adds its rows. -/
theorem pointAcc_cell (t : Fin (cfg0 (F := Ideal)).N) (X : Acc Ideal) (s : Fin 10176) (j : Fin 384)
    (hX : startAcc (grid0.coords t) X = X) :
    cell (pointAcc m c t X) s j
      = cell X s j + ((∑ r ∈ Finset.range 4000, rowAdd m c xR WR bR s.val j (4000 * t.val + r) : ℝ) : EReal) := by
  have ht := pt_lt t
  have h8 := pay8_seg m c t
  unfold pointAcc
  rw [hX]
  refine (pointStep_apply _ _ (fun r j => colsR (featR xR WR bR ⟨4000 * t.val + r.val, by omega⟩) j)
    (fun r j => ?_) (fun r => ?_) _ ?_ (fun s j hs => ?_) _ ?_ (fun s j hs => ?_) X s j).trans ?_
  · refine pay7_apply _ _ _ (fun r k => xR ⟨4000 * t.val + r.val, by omega⟩ k) (fun r k => ?_) WR (fun d k => ?_) bR
      (fun d => ?_) r j
    · rw [ix2_eq_valueIdx]; exact (iblk0_eq m c t r k).trans (hx _ k)
    · rw [ix2_eq_valueIdx]; exact (iblk3_eq m c t _).trans (hW d k)
    · exact (iblk4_eq m c t _).trans (hb d)
  · rw [h8]; exact hseg _
  · rw [hi_eq]; exact hseg _
  · refine Finset.sum_eq_zero fun r _ => if_neg ?_
    rw [h8]
    rw [hi_eq] at hs
    have := hmono ⟨4000 * t.val + r.val, by omega⟩ ⟨4000 * t.val + 3999, by omega⟩ (by rw [Fin.le_def]; show 4000 * t.val + r.val ≤ 4000 * t.val + 3999; omega)
    have hs' : seg m c ⟨4000 * t.val + 3999, by omega⟩ < s := hs
    omega
  · rw [lo_eq]; exact hseg _
  · refine Finset.sum_eq_zero fun r _ => if_neg ?_
    rw [h8]
    rw [lo_eq] at hs
    have := hmono ⟨4000 * t.val, by omega⟩ ⟨4000 * t.val + r.val, by omega⟩ (by rw [Fin.le_def]; show 4000 * t.val ≤ 4000 * t.val + r.val; omega)
    have hs' : s < seg m c ⟨4000 * t.val, by omega⟩ := hs
    omega
  · rw [blockSum_eq]

include hx hW hb hseg hmono in
/-- The accumulator before point `n`. -/
theorem accN_cell (s : Fin 10176) (j : Fin 384) : ∀ n, n ≤ 80 →
    cell (accN m c n) s j = ((∑ r ∈ Finset.range (4000 * n), rowAdd m c xR WR bR s.val j r : ℝ) : EReal) := by
  intro n
  induction n with
  | zero =>
    intro _
    rw [Nat.mul_zero, Finset.sum_range_zero, EReal.coe_zero]
    exact pay6_apply s j
  | succ n ih =>
    intro hn
    have hN : n < (cfg0 (F := Ideal)).N := lt_of_lt_of_eq (by omega) N_0.symm
    have hst : startAcc (grid0.coords ⟨n, hN⟩) (accN m c n) = accN m c n := by
      unfold startAcc
      split
      · rename_i h
        have h0 : n = 0 := (cond1_iff ⟨n, hN⟩).mp h
        subst h0; rfl
      · rfl
    rw [accN, dif_pos hN, pointAcc_cell m c xR WR bR hx hW hb hseg hmono ⟨n, hN⟩ _ s j hst, ih (by omega), ← EReal.coe_add,
      Nat.mul_succ, Finset.sum_range_add]

include hx hW hb hseg hmono in
/-- The accumulator after every point. -/
theorem acc_final (s : Fin 10176) (j : Fin 384) :
    cell (accN m c 80) s j
      = ((∑ n : Fin 320000, if seg m c n = s.val then colsR (featR xR WR bR n) j else 0 : ℝ) : EReal) := by
  rw [accN_cell m c xR WR bR hx hW hb hseg hmono s j 80 le_rfl]
  refine congrArg (fun x : ℝ => (x : EReal)) ?_
  rw [show 4000 * 80 = 320000 from rfl, Finset.sum_range]
  refine Finset.sum_congr rfl fun n _ => ?_
  unfold rowAdd
  rw [dif_pos n.isLt]

end Total

end Cert.Proof.KI

end
-- ==== Proof.KI.Result.lean ====
/- The kernel's result over the reals, element by element: means on the left, standard deviations on the right. -/
module

public import proofs.«01_k».proof.Proof.KI.Total
public import proofs.«01_k».proof.Proof.Gen.KernelIdeal.Points
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (c : Dev nD)

/-- The left half of the result. -/
theorem resOf_left (Y : Acc Ideal) (s : Fin 10000) (d : Fin 128) :
    resOf Y (ix2 (n0 := 10000) (n1 := 256) s ⟨d.val, by omega⟩)
      = k0_pay3 (F := Ideal) (sumsOf Y) (cntOf Y) (ix2 s d) := by
  unfold resOf resL
  have hemb : (ix2 (n0 := 10000) (n1 := 256) s ⟨d.val, by omega⟩ : S10000x256.Idx)
      = (Rect.unit (s := S10000x256) ![0, 0] S10000x128.size inb_S10000x256_S10000x128_0_0).emb (ix2 (n0 := 10000) (n1 := 128) s d) := by
    funext a
    refine Fin.ext ?_
    match a with
    | ⟨0, _⟩ => show s.val = 0 + 1 * s.val; omega
    | ⟨1, _⟩ => show d.val = 0 + 1 * d.val; omega
  rw [View.canon_cons_of_not_mem, hemb, View.canon_cons_emb]
  intro hmem
  obtain ⟨x, hx⟩ := LoadRect.exists_idx_of_mem _ hmem
  have h1 : 128 + 1 * (x 1).val = d.val := congrArg (fun y : S10000x256.Idx => (y 1).val) hx
  have := d.isLt
  omega

/-- The right half of the result. -/
theorem resOf_right (Y : Acc Ideal) (s : Fin 10000) (d : Fin 128) :
    resOf Y (ix2 (n0 := 10000) (n1 := 256) s ⟨128 + d.val, by omega⟩)
      = k0_pay4 (F := Ideal) (sumsOf Y) (sqsOf Y) (cntOf Y) (ix2 s d) := by
  unfold resOf resL
  have hemb : (ix2 (n0 := 10000) (n1 := 256) s ⟨128 + d.val, by omega⟩ : S10000x256.Idx)
      = (Rect.unit (s := S10000x256) ![0, 128] S10000x128.size inb_S10000x256_S10000x128_0_128).emb (ix2 (n0 := 10000) (n1 := 128) s d) := by
    funext a
    refine Fin.ext ?_
    match a with
    | ⟨0, _⟩ => show s.val = 0 + 1 * s.val; omega
    | ⟨1, _⟩ => show 128 + d.val = 128 + 1 * d.val; omega
  rw [hemb, View.canon_cons_emb]

theorem sumsOf_apply (Y : Acc Ideal) (s : Fin 10000) (d : Fin 128) :
    sumsOf Y (ix2 (n0 := 10000) (n1 := 128) s d) = cell Y ⟨s.val, by omega⟩ ⟨d.val, by omega⟩ := by
  refine (View.readAt_apply _ _ _).trans ?_
  refine (View.read_apply _ _).trans ?_
  refine (cast_eq _ _).trans ?_
  refine congrArg Y ?_
  funext a
  refine Fin.ext ?_
  match a with
  | ⟨0, _⟩ => show 0 + 1 * s.val = s.val; omega
  | ⟨1, _⟩ => show 0 + 1 * d.val = d.val; omega

theorem sqsOf_apply (Y : Acc Ideal) (s : Fin 10000) (d : Fin 128) :
    sqsOf Y (ix2 (n0 := 10000) (n1 := 128) s d) = cell Y ⟨s.val, by omega⟩ ⟨128 + d.val, by omega⟩ := by
  refine (View.readAt_apply _ _ _).trans ?_
  refine (View.read_apply _ _).trans ?_
  refine (cast_eq _ _).trans ?_
  refine congrArg Y ?_
  funext a
  refine Fin.ext ?_
  match a with
  | ⟨0, _⟩ => show 0 + 1 * s.val = s.val; omega
  | ⟨1, _⟩ => show 128 + 1 * d.val = 128 + d.val; omega

theorem cntOf_apply (Y : Acc Ideal) (s : Fin 10000) :
    cntOf Y (ix2 (n0 := 10000) (n1 := 1) s 0) = cell Y ⟨s.val, by omega⟩ ⟨256, by omega⟩ := by
  refine (View.readAt_apply _ _ _).trans ?_
  refine (View.read_apply _ _).trans ?_
  refine (cast_eq _ _).trans ?_
  refine congrArg Y ?_
  funext a
  refine Fin.ext ?_
  match a with
  | ⟨0, _⟩ => show 0 + 1 * s.val = s.val; omega
  | ⟨1, _⟩ => rfl

theorem index5 : ∀ (t : Fin grid0.N) (a : Fin 2), win0_5.index t a = 0 := by decide

/-- The result array after the run is what the last point writes out. -/
theorem arr_final (y : S10000x256.Idx) :
    ((dats m 0 c).arrAt 5 (cfg0 (F := Ideal)).N : S10000x256.Idx → Elt Ideal .f32) y = resOf (accN m c 80) y := by
  have hN : 79 < (cfg0 (F := Ideal)).N := lt_of_lt_of_eq (by omega) N_0.symm
  have hdisj : ∀ t t' : Fin (cfg0 (F := Ideal)).N, ((cfg0 (F := Ideal)).win 5).flush t = true →
      ((cfg0 (F := Ideal)).win 5).flush t' = true → t ≠ t' →
      Disjoint (((cfg0 (F := Ideal)).win 5).blk t).view.set (((cfg0 (F := Ideal)).win 5).blk t').view.set := by
    intro t t' h h' hne
    have h1 := (flush0_5 t).mp h
    have h2 := (flush0_5 t').mp h'
    have := pt_lt t; have := pt_lt t'
    exact absurd (Fin.ext (by omega)) hne
  have hf : ((cfg0 (F := Ideal)).win 5).flush ⟨79, hN⟩ = true := (flush0_5 ⟨79, hN⟩).mpr rfl
  have h := (dats m 0 c).arrAt_emb_eq_flushed 5 hdisj ⟨79, hN⟩ hf y
  have hy : (((cfg0 (F := Ideal)).win 5).blk ⟨79, hN⟩).view.emb y = y := by
    funext a
    refine Fin.ext ?_
    exact Pipeline.Window.rect_emb_val_of_index_zero win0_5 ⟨79, hN⟩ a (index5 ⟨79, hN⟩ a) y
  rw [hy] at h
  refine h.trans ?_
  refine (cast_eq _ _).trans ?_
  refine (congrFun (after5 m c ⟨79, hN⟩) _).trans ?_
  rfl

end Cert.Proof.KI

end
-- ==== Proof.RefScatter.lean ====
/- The reference's scatters and gather over the reals, element by element. A scatter adds to row `s` the rows whose
   segment is `s`; the gather takes a row's segment's row. -/
module

public import proofs.«01_k».proof.Proof.Gen.ReferenceIdeal.Run
public import Idealize.ShloMosaic.Lib.Pointwise
public import Idealize.ShloMosaic.Lib.IdealHost

@[expose] public section

noncomputable section

namespace Cert.Proof.Ref

open Cert.ReferenceIdeal Cert.ReferenceIdeal.Gen Idealize.ShloMosaic

section Rows

/-- The start of row `n`'s update is its segment, on the first axis alone. -/
theorem start2_0 (idx : IVec S320000x1 32) (n : Fin 320000) (e : Fin 128) :
    scatter_S10000x128_S320000x1_S320000x128_1_0_0_1.start (ix2 n e) idx 0 = (idx (ix2 n 0)).toInt := by
  unfold ScatterDims.start
  rw [dif_pos (show (0 : Fin 2) ∈ scatter_S10000x128_S320000x1_S320000x128_1_0_0_1.scatterDimsToOperandDims from List.mem_singleton.mpr rfl)]
  refine congrArg (fun i => (idx i).toInt) ?_
  funext b; refine Fin.ext ?_
  match b with
  | ⟨0, _⟩ => rfl
  | ⟨1, _⟩ => rfl

theorem start2_1 (idx : IVec S320000x1 32) (n : Fin 320000) (e : Fin 128) :
    scatter_S10000x128_S320000x1_S320000x128_1_0_0_1.start (ix2 n e) idx 1 = 0 := by
  unfold ScatterDims.start
  rw [dif_neg]
  exact (by decide : (1 : Fin 2) ∉ ([0] : List (Fin 2)))

theorem window2_0 (n : Fin 320000) (e : Fin 128) :
    scatter_S10000x128_S320000x1_S320000x128_1_0_0_1.window (ix2 n e) 0 = 0 := by
  unfold ScatterDims.window
  rw [dif_neg]
  exact (by decide : (0 : Fin 2) ∉ (S10000x128.kept [0] : List (Fin 2)))

theorem window2_1 (n : Fin 320000) (e : Fin 128) :
    scatter_S10000x128_S320000x1_S320000x128_1_0_0_1.window (ix2 n e) 1 = e.val := by
  unfold ScatterDims.window
  rw [dif_pos (by exact (by decide : (1 : Fin 2) ∈ (S10000x128.kept [0] : List (Fin 2))))]
  rfl

/-- An update lands at the element of its segment's row in its own column. -/
theorem result2_iff (idx : IVec S320000x1 32) (n : Fin 320000) (e : Fin 128) (s : Fin 10000) (d : Fin 128) :
    scatter_S10000x128_S320000x1_S320000x128_1_0_0_1.resultIdx? (ix2 n e) idx = some (ix2 s d)
      ↔ (idx (ix2 n 0)).toInt = s.val ∧ e = d := by
  have h00 := start2_0 idx n e
  have h01 := start2_1 idx n e
  have h10 := window2_0 n e
  have h11 := window2_1 n e
  unfold ScatterDims.resultIdx?
  constructor
  · intro h
    split at h
    · rename_i hb
      have hb0 := hb 0
      have e0 := congrArg (fun y : S10000x128.Idx => (y 0).val) (Option.some.inj h)
      have e1 := congrArg (fun y : S10000x128.Idx => (y 1).val) (Option.some.inj h)
      have e0' : (scatter_S10000x128_S320000x1_S320000x128_1_0_0_1.start (ix2 n e) idx 0
        + scatter_S10000x128_S320000x1_S320000x128_1_0_0_1.window (ix2 n e) 0).toNat = s.val := e0
      have e1' : (scatter_S10000x128_S320000x1_S320000x128_1_0_0_1.start (ix2 n e) idx 1
        + scatter_S10000x128_S320000x1_S320000x128_1_0_0_1.window (ix2 n e) 1).toNat = d.val := e1
      rw [h00, h10] at e0' hb0
      rw [h01, h11] at e1'
      refine ⟨by omega, Fin.ext (by omega)⟩
    · cases h
  · rintro ⟨hs, rfl⟩
    have hs' := s.isLt
    have he' := e.isLt
    have hb : ∀ a : Fin 2, 0 ≤ scatter_S10000x128_S320000x1_S320000x128_1_0_0_1.start (ix2 n e) idx a
        + scatter_S10000x128_S320000x1_S320000x128_1_0_0_1.window (ix2 n e) a
        ∧ scatter_S10000x128_S320000x1_S320000x128_1_0_0_1.start (ix2 n e) idx a
        + scatter_S10000x128_S320000x1_S320000x128_1_0_0_1.window (ix2 n e) a < S10000x128.size a := by
      intro a
      match a with
      | ⟨0, _⟩ =>
        have : (S10000x128.size 0 : ℤ) = 10000 := rfl
        refine ⟨?_, ?_⟩
        · show 0 ≤ scatter_S10000x128_S320000x1_S320000x128_1_0_0_1.start (ix2 n e) idx 0 + scatter_S10000x128_S320000x1_S320000x128_1_0_0_1.window (ix2 n e) 0
          rw [h00, h10]; omega
        · show scatter_S10000x128_S320000x1_S320000x128_1_0_0_1.start (ix2 n e) idx 0 + scatter_S10000x128_S320000x1_S320000x128_1_0_0_1.window (ix2 n e) 0 < (S10000x128.size 0 : ℤ)
          rw [h00, h10]; omega
      | ⟨1, _⟩ =>
        have : (S10000x128.size 1 : ℤ) = 128 := rfl
        refine ⟨?_, ?_⟩
        · show 0 ≤ scatter_S10000x128_S320000x1_S320000x128_1_0_0_1.start (ix2 n e) idx 1 + scatter_S10000x128_S320000x1_S320000x128_1_0_0_1.window (ix2 n e) 1
          rw [h01, h11]; omega
        · show scatter_S10000x128_S320000x1_S320000x128_1_0_0_1.start (ix2 n e) idx 1 + scatter_S10000x128_S320000x1_S320000x128_1_0_0_1.window (ix2 n e) 1 < (S10000x128.size 1 : ℤ)
          rw [h01, h11]; omega
    rw [dif_pos hb]
    refine congrArg some ?_
    funext a
    refine Fin.ext ?_
    match a with
    | ⟨0, _⟩ =>
      show (scatter_S10000x128_S320000x1_S320000x128_1_0_0_1.start (ix2 n e) idx 0
        + scatter_S10000x128_S320000x1_S320000x128_1_0_0_1.window (ix2 n e) 0).toNat = s.val
      rw [h00, h10]; omega
    | ⟨1, _⟩ =>
      show (scatter_S10000x128_S320000x1_S320000x128_1_0_0_1.start (ix2 n e) idx 1
        + scatter_S10000x128_S320000x1_S320000x128_1_0_0_1.window (ix2 n e) 1).toNat = e.val
      rw [h01, h11]; omega

/-- The scatter of rows at one element. -/
theorem scatter2_apply (x : FVec Ideal S10000x128 .f32) (idx : IVec S320000x1 32) (upd : FVec Ideal S320000x128 .f32)
    (s : Fin 10000) (d : Fin 128) :
    Host.scatterAdd scatter_S10000x128_S320000x1_S320000x128_1_0_0_1 x idx upd (ix2 s d)
      = (x (ix2 s d) : EReal) + ∑ n : Fin 320000, if (idx (ix2 n 0)).toInt = s.val then (upd (ix2 n d) : EReal) else 0 := by
  show (x (ix2 s d) : EReal) + ∑ j ∈ Finset.univ.filter (fun j => scatter_S10000x128_S320000x1_S320000x128_1_0_0_1.resultIdx? j idx = some (ix2 s d)), (upd j : EReal) = _
  refine congrArg ((x (ix2 s d) : EReal) + ·) ?_
  rw [Finset.sum_filter, sum_idx2]
  refine Finset.sum_congr rfl fun n _ => ?_
  simp only [result2_iff]
  by_cases h : (idx (ix2 n 0)).toInt = s.val
  · simp only [h, true_and, if_true, Finset.sum_ite_eq', Finset.mem_univ]
  · simp only [h, false_and, if_false, Finset.sum_const_zero]

end Rows

section Counts

theorem start1_0 (idx : IVec S320000x1 32) (n : Fin 320000) :
    scatter_S10000_S320000x1_S320000_n_0_0_1.start (ix1 n) idx 0 = (idx (ix2 n 0)).toInt := by
  unfold ScatterDims.start
  rw [dif_pos (show (0 : Fin 1) ∈ scatter_S10000_S320000x1_S320000_n_0_0_1.scatterDimsToOperandDims from List.mem_singleton.mpr rfl)]
  refine congrArg (fun i => (idx i).toInt) ?_
  funext b; refine Fin.ext ?_
  match b with
  | ⟨0, _⟩ => rfl
  | ⟨1, _⟩ => rfl

theorem window1_0 (n : Fin 320000) : scatter_S10000_S320000x1_S320000_n_0_0_1.window (ix1 n) 0 = 0 := by
  unfold ScatterDims.window
  rw [dif_neg]
  exact (by decide : (0 : Fin 1) ∉ (S10000.kept [0] : List (Fin 1)))

/-- A count's update lands at its segment. -/
theorem result1_iff (idx : IVec S320000x1 32) (n : Fin 320000) (s : Fin 10000) :
    scatter_S10000_S320000x1_S320000_n_0_0_1.resultIdx? (ix1 n) idx = some (ix1 s) ↔ (idx (ix2 n 0)).toInt = s.val := by
  have h00 := start1_0 idx n
  have h10 := window1_0 n
  unfold ScatterDims.resultIdx?
  constructor
  · intro h
    split at h
    · rename_i hb
      have hb0 := hb 0
      have e0' : (scatter_S10000_S320000x1_S320000_n_0_0_1.start (ix1 n) idx 0
        + scatter_S10000_S320000x1_S320000_n_0_0_1.window (ix1 n) 0).toNat = s.val :=
        congrArg (fun y : S10000.Idx => (y 0).val) (Option.some.inj h)
      rw [h00, h10] at e0' hb0
      omega
    · cases h
  · intro hs
    have hs' := s.isLt
    have hb : ∀ a : Fin 1, 0 ≤ scatter_S10000_S320000x1_S320000_n_0_0_1.start (ix1 n) idx a
        + scatter_S10000_S320000x1_S320000_n_0_0_1.window (ix1 n) a
        ∧ scatter_S10000_S320000x1_S320000_n_0_0_1.start (ix1 n) idx a
        + scatter_S10000_S320000x1_S320000_n_0_0_1.window (ix1 n) a < S10000.size a := by
      intro a
      obtain rfl : a = 0 := Subsingleton.elim _ _
      have : (S10000.size 0 : ℤ) = 10000 := rfl
      rw [h00, h10]
      omega
    rw [dif_pos hb]
    refine congrArg some ?_
    funext a
    obtain rfl : a = 0 := Subsingleton.elim _ _
    refine Fin.ext ?_
    show (scatter_S10000_S320000x1_S320000_n_0_0_1.start (ix1 n) idx 0
        + scatter_S10000_S320000x1_S320000_n_0_0_1.window (ix1 n) 0).toNat = s.val
    rw [h00, h10]; omega

/-- The scatter of counts at one element. -/
theorem scatter1_apply (x : FVec Ideal S10000 .f32) (idx : IVec S320000x1 32) (upd : FVec Ideal S320000 .f32) (s : Fin 10000) :
    Host.scatterAdd scatter_S10000_S320000x1_S320000_n_0_0_1 x idx upd (ix1 s)
      = (x (ix1 s) : EReal) + ∑ n : Fin 320000, if (idx (ix2 n 0)).toInt = s.val then (upd (ix1 n) : EReal) else 0 := by
  show (x (ix1 s) : EReal) + ∑ j ∈ Finset.univ.filter (fun j => scatter_S10000_S320000x1_S320000_n_0_0_1.resultIdx? j idx = some (ix1 s)), (upd j : EReal) = _
  refine congrArg ((x (ix1 s) : EReal) + ·) ?_
  rw [Finset.sum_filter, sum_idx1]
  refine Finset.sum_congr rfl fun n _ => ?_
  simp only [result1_iff]

end Counts

/-- The gather at one element, its row's segment in range. -/
theorem gather_apply (x : FVec Ideal S10000x128 .f32) (idx : IVec S320000x1 32) (n : Fin 320000) (d : Fin 128) (s : Fin 10000)
    (hs : (idx (ix2 n 0)).toInt = s.val) :
    Host.gather gather_S10000x128_S320000x1_S320000x128_1_0_n_n_0_1_1128 x idx (ix2 n d) = x (ix2 s d) := by
  unfold Host.gather
  refine congrArg x ?_
  have hs' := s.isLt
  have hstart0 : gather_S10000x128_S320000x1_S320000x128_1_0_n_n_0_1_1128.start (ix2 n d) idx 0 = s.val := by
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 n d)
        ⟨List.idxOf (0 : Fin 2) gather_S10000x128_S320000x1_S320000x128_1_0_n_n_0_1_1128.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi, hs]
    show min (s.val : ℤ).toNat (10000 - 1) = s.val
    omega
  have hstart1 : gather_S10000x128_S320000x1_S320000x128_1_0_n_n_0_1_1128.start (ix2 n d) idx 1 = 0 := by
    unfold GatherDims.start
    rw [dif_neg]
    exact (by decide : (1 : Fin 2) ∉ ([0] : List (Fin 2)))
  have hoff0 : gather_S10000x128_S320000x1_S320000x128_1_0_n_n_0_1_1128.offCoord (ix2 n d) 0 = 0 :=
    GatherDims.offCoord_eq_zero _ _ _ (fun h => ((GatherDims.mem_sKept _ _).mp h).1 (List.mem_singleton.mpr rfl))
  have hoff1 : gather_S10000x128_S320000x1_S320000x128_1_0_n_n_0_1_1128.offCoord (ix2 n d) 1 = d.val := by
    unfold GatherDims.offCoord
    rw [dif_pos ((GatherDims.mem_sKept _ _).mpr ⟨(by decide : (1 : Fin 2) ∉ ([0] : List (Fin 2))), List.not_mem_nil⟩)]
    rfl
  have hbat : ∀ a : Fin 2, gather_S10000x128_S320000x1_S320000x128_1_0_n_n_0_1_1128.batchCoord (ix2 n d) a = 0 := fun a =>
    GatherDims.batchCoord_eq_zero _ _ _ List.not_mem_nil
  funext a
  refine Fin.ext ?_
  match a with
  | ⟨0, _⟩ =>
    show gather_S10000x128_S320000x1_S320000x128_1_0_n_n_0_1_1128.start (ix2 n d) idx 0
      + gather_S10000x128_S320000x1_S320000x128_1_0_n_n_0_1_1128.batchCoord (ix2 n d) 0
      + gather_S10000x128_S320000x1_S320000x128_1_0_n_n_0_1_1128.offCoord (ix2 n d) 0 = s.val
    rw [hstart0, hbat, hoff0]; rfl
  | ⟨1, _⟩ =>
    show gather_S10000x128_S320000x1_S320000x128_1_0_n_n_0_1_1128.start (ix2 n d) idx 1
      + gather_S10000x128_S320000x1_S320000x128_1_0_n_n_0_1_1128.batchCoord (ix2 n d) 1
      + gather_S10000x128_S320000x1_S320000x128_1_0_n_n_0_1_1128.offCoord (ix2 n d) 1 = d.val
    rw [hstart1, hbat, hoff1]; omega

end Cert.Proof.Ref

end
-- ==== Proof.Algebra.lean ====
/- The algebra of the two ways to a standard deviation: the squared distances from the mean add up to the sum of squares
   less the sum times the mean, which is never negative. -/
module

public import Mathlib.Analysis.SpecialFunctions.Pow.Real

@[expose] public section

noncomputable section

namespace Cert.Proof.Alg

/-- Over the indices `p` picks, of which `C` many: the squared distances from the mean, added up, are the sum of squares
    less the sum times the mean, bounded below by zero. -/
theorem squares_eq {ι : Type} [Fintype ι] (p : ι → Prop) [DecidablePred p] (f : ι → ℝ) :
    (∑ i, if p i then (f i - (∑ i, if p i then f i else 0) / max (∑ i, if p i then (1 : ℝ) else 0) 1)
        * (f i - (∑ i, if p i then f i else 0) / max (∑ i, if p i then (1 : ℝ) else 0) 1) else 0)
      = max ((∑ i, if p i then f i * f i else 0)
          - (∑ i, if p i then f i else 0) * ((∑ i, if p i then f i else 0) / max (∑ i, if p i then (1 : ℝ) else 0) 1)) 0 := by
  by_cases hex : ∃ i, p i
  · obtain ⟨i₀, hi₀⟩ := hex
    have hC : (1 : ℝ) ≤ ∑ i, if p i then (1 : ℝ) else 0 := by
      have := Finset.single_le_sum (f := fun i => if p i then (1 : ℝ) else 0) (s := Finset.univ)
        (fun i _ => by split_ifs <;> norm_num) (Finset.mem_univ i₀)
      simpa only [if_pos hi₀] using this
    rw [max_eq_left hC]
    generalize hS : (∑ i, if p i then f i else 0) = S at *
    generalize hC' : (∑ i, if p i then (1 : ℝ) else 0) = C at *
    have hne : C ≠ 0 := by linarith
    have hk : (∑ i, if p i then (f i - S / C) * (f i - S / C) else 0) = (∑ i, if p i then f i * f i else 0) - S * (S / C) := by
      have h1 : ∀ i, (if p i then (f i - S / C) * (f i - S / C) else 0)
          = (if p i then f i * f i else 0) - 2 * (S / C) * (if p i then f i else 0) + (S / C) * (S / C) * (if p i then (1 : ℝ) else 0) := by
        intro i; split_ifs <;> ring
      simp only [h1]
      rw [Finset.sum_add_distrib, Finset.sum_sub_distrib, ← Finset.mul_sum, ← Finset.mul_sum, hS, hC']
      field_simp
      ring
    rw [← hk, max_eq_left]
    exact Finset.sum_nonneg fun i _ => by split_ifs <;> first | exact mul_self_nonneg _ | exact le_rfl
  · have hno : ∀ i, ¬p i := fun i hi => hex ⟨i, hi⟩
    simp [hno]

end Cert.Proof.Alg

end
-- ==== Proof.RefValue.lean ====
/- The reference's result over the reals, element by element, for segments in range and finite floats. -/
module

public import proofs.«01_k».proof.Proof.RefScatter
public import proofs.«01_k».proof.Proof.Algebra
public import proofs.«01_k».proof.Proof.KI.Total

@[expose] public section

noncomputable section

namespace Cert.Proof.Ref

open Cert.ReferenceIdeal Cert.ReferenceIdeal.Gen Idealize.ShloMosaic
open Cert.Proof.KI (featR coe_sum)

variable (x : FVec Ideal S320000x128 .f32) (ids : IVec S320000 32) (W : FVec Ideal S128x128 .f32) (b : FVec Ideal S128 .f32)

/-- The features. -/
def featV : FVec Ideal S320000x128 .f32 :=
  addf (Host.dotGeneral dot_S320000x128_S128x128_S320000x128_1_0_0_1_n_n none x (transpose S128x128 [1, 0] W transposes_S128x128_S128x128_1_0))
    (broadcastInDim S320000x128 ![0, 1] bcast_S1x128_S320000x128_0_1 (broadcastInDim S1x128 ![1] bcast_S128_S1x128_1 b))

/-- Each row's segment, as a column. -/
def idxV : IVec S320000x1 32 := broadcastInDim S320000x1 ![0] bcast_S320000_S320000x1_0 ids

/-- Rows added up by segment. -/
def rowsV (u : FVec Ideal S320000x128 .f32) : FVec Ideal S10000x128 .f32 :=
  Host.scatterAdd scatter_S10000x128_S320000x1_S320000x128_1_0_0_1 (broadcastInDim S10000x128 ![] bcast_S_S10000x128 (constant S_ .f32 0x00000000#32)) (idxV ids) u

/-- Rows counted by segment. -/
def cntV : FVec Ideal S10000 .f32 :=
  Host.scatterAdd scatter_S10000_S320000x1_S320000_n_0_0_1 (broadcastInDim S10000 ![] bcast_S_S10000 (constant S_ .f32 0x00000000#32)) (idxV ids)
    (broadcastInDim S320000 ![] bcast_S_S320000 (constant S_ .f32 0x3F800000#32))

/-- The means. -/
def meanV : FVec Ideal S10000x128 .f32 :=
  Host.divf (rowsV ids (featV x W b)) (broadcastInDim S10000x128 ![0, 1] bcast_S10000x1_S10000x128_0_1 (broadcastInDim S10000x1 ![0] bcast_S10000_S10000x1_0
    (maximumf (broadcastInDim S10000 ![] bcast_S_S10000 (id (constant S_ .f32 0x3F800000#32))) (cntV ids))))

/-- Each row's segment as the gather reads it. -/
def gidxV : IVec S320000x1 32 :=
  broadcastInDim S320000x1 ![0] bcast_S320000_S320000x1_0 (select (cmpi .slt ids (broadcastInDim S320000 ![] bcast_S_S320000 (constantI S_ 32 0#32)))
    (addi ids (broadcastInDim S320000 ![] bcast_S_S320000 (constantI S_ 32 10000#32))) ids)

/-- The distances from the means. -/
def diffV : FVec Ideal S320000x128 .f32 :=
  subf (featV x W b) (Host.gather gather_S10000x128_S320000x1_S320000x128_1_0_n_n_0_1_1128 (meanV x ids W b) (gidxV ids))

/-- The standard deviations. -/
def stdV : FVec Ideal S10000x128 .f32 :=
  Host.sqrt (Host.divf (rowsV ids (mulf (diffV x ids W b) (diffV x ids W b)))
    (broadcastInDim S10000x128 ![0, 1] bcast_S10000x1_S10000x128_0_1 (addf (broadcastInDim S10000x1 ![0] bcast_S10000_S10000x1_0
      (maximumf (broadcastInDim S10000 ![] bcast_S_S10000 (id (constant S_ .f32 0x3F800000#32)))
        (subf (cntV ids) (broadcastInDim S10000 ![] bcast_S_S10000 (constant S_ .f32 0x3F800000#32)))))
      (broadcastInDim S10000x1 ![] bcast_S_S10000x1 (constant S_ .f32 0x358637BD#32)))))

/-- The reference's result is the means beside the standard deviations. -/
theorem res_eq (m : (ℓ : Loc nD τ sig) → Buf (Elt Ideal) ℓ) (c : Dev nD) :
    Value.res_main_v37 m c = (concatenate S10000x256 1
      [⟨S10000x128, meanV (m ((c.tc : Thread nD τ).loc main_arg0)) (m ((c.tc : Thread nD τ).loc main_arg1)) (m ((c.tc : Thread nD τ).loc main_arg2)) (m ((c.tc : Thread nD τ).loc main_arg3))⟩,
       ⟨S10000x128, stdV (m ((c.tc : Thread nD τ).loc main_arg0)) (m ((c.tc : Thread nD τ).loc main_arg1)) (m ((c.tc : Thread nD τ).loc main_arg2)) (m ((c.tc : Thread nD τ).loc main_arg3))⟩]
      concatenates_S10000x128_S10000x128_S10000x256_d1 : FVec Ideal S10000x256 .f32) := rfl

variable (xR : Fin 320000 → Fin 128 → ℝ) (WR : Fin 128 → Fin 128 → ℝ) (bR : Fin 128 → ℝ)
  (hx : ∀ n k, x (ix2 n k) = ((xR n k : ℝ) : EReal)) (hW : ∀ d k, W (ix2 d k) = ((WR d k : ℝ) : EReal))
  (hb : ∀ d, b (ix1 d) = ((bR d : ℝ) : EReal)) (hid : ∀ n : Fin 320000, (ids (ix1 n)).toNat < 10000)

include hx hW hb in
theorem featV_apply (n : Fin 320000) (d : Fin 128) : featV x W b (ix2 n d) = ((featR xR WR bR n d : ℝ) : EReal) := by
  pointwise [featV]
  unfold featR
  rw [EReal.coe_add, coe_sum, hb]
  simp only [hx, hW, EReal.coe_mul]

theorem idxV_apply (n : Fin 320000) : idxV ids (ix2 n 0) = ids (ix1 n) := by
  pointwise [idxV]

include hid in
theorem idxV_int (n : Fin 320000) : (idxV ids (ix2 n 0)).toInt = ((ids (ix1 n)).toNat : ℤ) := by
  rw [idxV_apply]
  have := hid n
  exact BitVec.toInt_eq_toNat_of_lt (by omega)

include hid in
theorem gidxV_int (n : Fin 320000) : (gidxV ids (ix2 n 0)).toInt = ((ids (ix1 n)).toNat : ℤ) := by
  have h := hid n
  have e : gidxV ids (ix2 n 0) = ids (ix1 n) := by
    pointwise [gidxV]
    have hz : ¬IntOp.cmpi .slt (ids (ix1 n)) 0#32 = 1#1 := by
      have hi : (ids (ix1 n)).toInt = ((ids (ix1 n)).toNat : ℤ) := BitVec.toInt_eq_toNat_of_lt (by omega)
      have hs : (ids (ix1 n)).slt 0#32 = false := by
        rw [BitVec.slt, decide_eq_false_iff_not, hi]
        show ¬((ids (ix1 n)).toNat : ℤ) < 0
        omega
      simp only [IntOp.cmpi]
      rw [hs]
      decide
    rw [ValueIdx.eq_zero_of_ne_one hz]
    rfl
  rw [e]
  exact BitVec.toInt_eq_toNat_of_lt (by omega)

include hid in
/-- Rows of reals added up by segment. -/
theorem rowsV_apply (u : FVec Ideal S320000x128 .f32) (f : Fin 320000 → ℝ) (d : Fin 128) (s : Fin 10000)
    (hu : ∀ n : Fin 320000, (ids (ix1 n)).toNat = s.val → u (ix2 n d) = ((f n : ℝ) : EReal)) :
    rowsV ids u (ix2 s d) = ((∑ n : Fin 320000, if (ids (ix1 n)).toNat = s.val then f n else 0 : ℝ) : EReal) := by
  unfold rowsV
  refine (scatter2_apply _ _ _ s d).trans ?_
  have hz : (broadcastInDim S10000x128 ![] bcast_S_S10000x128 (constant (F := Ideal) S_ .f32 0x00000000#32) (ix2 s d) : EReal) = 0 := by
    pointwise []
  rw [hz, zero_add, coe_sum]
  refine Finset.sum_congr rfl fun n _ => ?_
  rw [idxV_int ids hid]
  by_cases h : (ids (ix1 n)).toNat = s.val
  · rw [if_pos (by exact_mod_cast h), if_pos h, hu n h]
  · rw [if_neg (by exact_mod_cast h), if_neg h, EReal.coe_zero]

include hid in
theorem cntV_apply (s : Fin 10000) :
    cntV ids (ix1 s) = ((∑ n : Fin 320000, if (ids (ix1 n)).toNat = s.val then (1 : ℝ) else 0 : ℝ) : EReal) := by
  unfold cntV
  refine (scatter1_apply _ _ _ s).trans ?_
  have hz : (broadcastInDim S10000 ![] bcast_S_S10000 (constant (F := Ideal) S_ .f32 0x00000000#32) (ix1 s) : EReal) = 0 := by
    pointwise []
  have ho : ∀ n : Fin 320000, (broadcastInDim S320000 ![] bcast_S_S320000 (constant (F := Ideal) S_ .f32 0x3F800000#32) (ix1 n) : EReal) = 1 := fun n => by
    pointwise []
  rw [hz, zero_add, coe_sum]
  refine Finset.sum_congr rfl fun n _ => ?_
  rw [idxV_int ids hid, ho]
  by_cases h : (ids (ix1 n)).toNat = s.val
  · rw [if_pos (by exact_mod_cast h), if_pos h, EReal.coe_one]
  · rw [if_neg (by exact_mod_cast h), if_neg h, EReal.coe_zero]

theorem one_bits : (id (constant (F := Ideal) S_ .f32 0x3F800000#32) ix0 : EReal) = 1 := Ideal.ofBits_one_f32

/-- The quotient by a count, or by one where there is none. -/
theorem div_max (a C : ℝ) : Ideal.div (a : EReal) (max (C : EReal) 1) = ((a / max C 1 : ℝ) : EReal) := by
  have h1 : max (C : EReal) 1 = ((max C 1 : ℝ) : EReal) := by
    rw [← EReal.coe_one]; exact (EReal.coe_strictMono.monotone.map_max).symm
  have hne : max C 1 ≠ 0 := by have := le_max_right C 1; linarith
  rw [h1]
  unfold Ideal.div
  rw [if_neg (by exact_mod_cast hne), div_eq_mul_inv, EReal.coe_mul, EReal.coe_inv]

/-- The mean of a segment's column. -/
def meanR (seg : Fin 320000 → ℕ) (f : Fin 320000 → ℝ) (s : ℕ) : ℝ :=
  (∑ n : Fin 320000, if seg n = s then f n else 0) / max (∑ n : Fin 320000, if seg n = s then (1 : ℝ) else 0) 1

include hx hW hb hid in
/-- A mean of the reference, in closed form. -/
theorem meanV_apply (s : Fin 10000) (d : Fin 128) :
    meanV x ids W b (ix2 s d) = ((meanR (fun n => (ids (ix1 n)).toNat) (fun n => featR xR WR bR n d) s.val : ℝ) : EReal) := by
  pointwise [meanV]
  rw [rowsV_apply ids hid _ (fun n => featR xR WR bR n d) d s (fun n _ => featV_apply x W b xR WR bR hx hW hb n d), cntV_apply ids hid,
    one_bits, max_comm, div_max]
  rfl

include hx hW hb hid in
theorem diffV_apply (n : Fin 320000) (d : Fin 128) :
    diffV x ids W b (ix2 n d) = ((featR xR WR bR n d
      - meanR (fun n => (ids (ix1 n)).toNat) (fun n => featR xR WR bR n d) (ids (ix1 n)).toNat : ℝ) : EReal) := by
  have hg := gather_apply (meanV x ids W b) (gidxV ids) n d ⟨(ids (ix1 n)).toNat, hid n⟩ (gidxV_int ids hid n)
  rw [meanV_apply x ids W b xR WR bR hx hW hb hid] at hg
  show (featV x W b (ix2 n d) : EReal) - (Host.gather gather_S10000x128_S320000x1_S320000x128_1_0_n_n_0_1_1128 (meanV x ids W b) (gidxV ids) (ix2 n d) : EReal) = _
  rw [hg, featV_apply x W b xR WR bR hx hW hb, EReal.coe_sub]

include hx hW hb hid in
/-- A standard deviation of the reference, in closed form. -/
theorem stdV_apply (s : Fin 10000) (d : Fin 128) :
    stdV x ids W b (ix2 s d) = Ideal.sqrt (Ideal.div
      ((max ((∑ n : Fin 320000, if (ids (ix1 n)).toNat = s.val then featR xR WR bR n d * featR xR WR bR n d else 0)
        - (∑ n : Fin 320000, if (ids (ix1 n)).toNat = s.val then featR xR WR bR n d else 0)
          * meanR (fun n => (ids (ix1 n)).toNat) (fun n => featR xR WR bR n d) s.val) 0 : ℝ) : EReal)
      (max (((∑ n : Fin 320000, if (ids (ix1 n)).toNat = s.val then (1 : ℝ) else 0 : ℝ) : EReal) - 1) 1 + Ideal.ofBits .f32 0x358637BD#32)) := by
  pointwise [stdV]
  rw [rowsV_apply ids hid _ (fun n => (featR xR WR bR n d - meanR (fun n => (ids (ix1 n)).toNat) (fun n => featR xR WR bR n d) s.val)
      * (featR xR WR bR n d - meanR (fun n => (ids (ix1 n)).toNat) (fun n => featR xR WR bR n d) s.val)) d s (fun n hn => by
      show (diffV x ids W b (ix2 n d) : EReal) * (diffV x ids W b (ix2 n d) : EReal) = _
      rw [diffV_apply x ids W b xR WR bR hx hW hb hid, hn, EReal.coe_mul]),
    cntV_apply ids hid, one_bits, max_comm (1 : EReal)]
  have hsq := Alg.squares_eq (fun n : Fin 320000 => (ids (ix1 n)).toNat = s.val) (fun n => featR xR WR bR n d)
  unfold meanR
  rw [hsq]

end Cert.Proof.Ref

end
-- ==== Proof.Finite.lean ====
/- A float strictly between the two infinities is a real. -/
module

public import Idealize.ShloMosaic.Lib.Pointwise

@[expose] public section

noncomputable section

namespace Cert.Proof

open Idealize.ShloMosaic

/-- Above the lower infinity and below the upper one lies a real. -/
theorem real_of (v : EReal) (h : FloatOps.cmpf (F := Ideal) (φ := .f32) .ogt v (FloatOps.ofBits (F := Ideal) .f32 0xFF800000#32) = 1#1
    ∧ FloatOps.cmpf (F := Ideal) (φ := .f32) .olt v (FloatOps.ofBits (F := Ideal) .f32 0x7F800000#32) = 1#1) :
    v = ((v.toReal : ℝ) : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  have h1 : Ideal.ofBits .f32 0xFF800000#32 < v := by
    by_contra hn
    have e : FloatOps.cmpf (F := Ideal) (φ := .f32) .ogt v (FloatOps.ofBits (F := Ideal) .f32 0xFF800000#32) = BitVec.ofBool (decide (Ideal.ofBits .f32 0xFF800000#32 < v)) := rfl
    rw [e, decide_eq_false hn] at h
    exact absurd h.1 (by decide)
  have h2 : v < Ideal.ofBits .f32 0x7F800000#32 := by
    by_contra hn
    have e : FloatOps.cmpf (F := Ideal) (φ := .f32) .olt v (FloatOps.ofBits (F := Ideal) .f32 0x7F800000#32) = BitVec.ofBool (decide (v < Ideal.ofBits .f32 0x7F800000#32)) := rfl
    rw [e, decide_eq_false hn] at h
    exact absurd h.2 (by decide)
  rw [hb] at h1
  rw [ht] at h2
  exact (EReal.coe_toReal h2.ne h1.ne').symm

end Cert.Proof

end
-- ==== Proof.Algebraic.lean ====
/- The kernel's result and the reference's are one array over the reals, for sorted segments in range and finite floats. -/
module

public import proofs.«01_k».proof.Defs
public import proofs.«01_k».proof.Proof.KI.Result
public import proofs.«01_k».proof.Proof.KI.Run
public import proofs.«01_k».proof.Proof.RefValue
public import proofs.«01_k».proof.Proof.Finite
public import proofs.«01_k».proof.Proof.PreSorted
public import Idealize.ShloMosaic.Lib.Claim

@[expose] public section

noncomputable section

namespace Cert.Proof

open Idealize.ShloMosaic Idealize.ShloMosaic.TcCoe Idealize.SL.Sem

section Kernel

open Cert.KernelIdeal Cert.KernelIdeal.Gen
open Cert.Proof.KI

theorem cols_lo (f : Fin 128 → ℝ) (d : Fin 128) (h : d.val < 384) : colsR f ⟨d.val, h⟩ = f d := by
  unfold colsR
  rw [dif_pos d.isLt]

theorem cols_mid (f : Fin 128 → ℝ) (d : Fin 128) (h : 128 + d.val < 384) : colsR f ⟨128 + d.val, h⟩ = f d * f d := by
  unfold colsR
  have h1 : ¬(128 + d.val < 128) := by omega
  have h2 : 128 + d.val - 128 < 128 := by omega
  have h3 : (⟨128 + d.val - 128, h2⟩ : Fin 128) = d := Fin.ext (by show 128 + d.val - 128 = d.val; omega)
  show (if h : 128 + d.val < 128 then _ else if h' : 128 + d.val - 128 < 128 then _ else _) = _
  rw [dif_neg h1, dif_pos h2, h3]

theorem cols_hi (f : Fin 128 → ℝ) (h : 256 < 384) : colsR f ⟨256, h⟩ = 1 := by
  unfold colsR
  show (if h : 256 < 128 then _ else if h' : 256 - 128 < 128 then _ else _) = _
  rw [dif_neg (by omega), dif_neg (by omega)]

variable (m : (ℓ : Loc nD τ sig) → Buf (Elt Ideal) ℓ) (c : Dev nD)
variable (xR : Fin 320000 → Fin 128 → ℝ) (WR : Fin 128 → Fin 128 → ℝ) (bR : Fin 128 → ℝ)
  (hx : ∀ n k, (m ((c : Thread nD τ).loc main_arg0) : S320000x128.Idx → Elt Ideal .f32) (ValueIdx.ix2 n k) = ((xR n k : ℝ) : EReal))
  (hW : ∀ d k, (m ((c : Thread nD τ).loc main_arg2) : S128x128.Idx → Elt Ideal .f32) (ValueIdx.ix2 d k) = ((WR d k : ℝ) : EReal))
  (hb : ∀ d, (m ((c : Thread nD τ).loc main_arg3) : S128.Idx → Elt Ideal .f32) (ValueIdx.ix1 d) = ((bR d : ℝ) : EReal))
  (hseg : ∀ n, seg m c n < 10000) (hmono : ∀ n n', n ≤ n' → seg m c n ≤ seg m c n')

include hx hW hb hseg hmono in
/-- The kernel's mean. -/
theorem kernel_mean (s : Fin 10000) (d : Fin 128) :
    k0_pay3 (F := Ideal) (sumsOf (accN m c 80)) (cntOf (accN m c 80)) (ix2 s d)
      = ((Ref.meanR (seg m c) (fun n => featR xR WR bR n d) s.val : ℝ) : EReal) := by
  rw [pay3_apply, sumsOf_apply, cntOf_apply, acc_final m c xR WR bR hx hW hb hseg hmono,
    acc_final m c xR WR bR hx hW hb hseg hmono, Ref.div_max]
  simp only [cols_lo, cols_hi]
  rfl

include hx hW hb hseg hmono in
/-- The kernel's standard deviation. -/
theorem kernel_std (s : Fin 10000) (d : Fin 128) :
    k0_pay4 (F := Ideal) (sumsOf (accN m c 80)) (sqsOf (accN m c 80)) (cntOf (accN m c 80)) (ix2 s d)
      = Ideal.sqrt (Ideal.div
      ((max ((∑ n : Fin 320000, if seg m c n = s.val then featR xR WR bR n d * featR xR WR bR n d else 0)
        - (∑ n : Fin 320000, if seg m c n = s.val then featR xR WR bR n d else 0)
          * Ref.meanR (seg m c) (fun n => featR xR WR bR n d) s.val) 0 : ℝ) : EReal)
      (max (((∑ n : Fin 320000, if seg m c n = s.val then (1 : ℝ) else 0 : ℝ) : EReal) - 1) 1 + Ideal.ofBits .f32 0x358637BD#32)) := by
  rw [pay4_apply, sumsOf_apply, sqsOf_apply, cntOf_apply, acc_final m c xR WR bR hx hW hb hseg hmono,
    acc_final m c xR WR bR hx hW hb hseg hmono, acc_final m c xR WR bR hx hW hb hseg hmono, Ref.div_max]
  simp only [cols_lo, cols_mid, cols_hi]
  rw [← EReal.coe_mul, ← EReal.coe_sub, ← EReal.coe_zero, ← EReal.coe_strictMono.monotone.map_max]
  rfl

end Kernel

/-- Neighbours in order make the whole in order. -/
theorem mono_of (f : Fin 320000 → ℕ) (h : ∀ (n : ℕ) (hn : n + 1 < 320000), f ⟨n, by omega⟩ ≤ f ⟨n + 1, hn⟩) :
    ∀ n n', n ≤ n' → f n ≤ f n' := by
  have key : ∀ (k a : ℕ) (hk : a + k < 320000), f ⟨a, by omega⟩ ≤ f ⟨a + k, hk⟩ := by
    intro k
    induction k with
    | zero => intro a hk; exact le_rfl
    | succ k ih => intro a hk; exact (ih a (by omega)).trans (h (a + k) hk)
  intro n n' hle
  have h1 : n.val ≤ n'.val := hle
  have h2 := key (n'.val - n.val) n.val (by have := n'.isLt; omega)
  have h3 : (⟨n.val + (n'.val - n.val), by have := n'.isLt; omega⟩ : Fin 320000) = n' := Fin.ext (by show n.val + (n'.val - n.val) = n'.val; omega)
  rw [h3] at h2
  exact h2

/-- The reference's result on the left and on the right. -/
theorem cat_left (A B : FVec Ideal Cert.ReferenceIdeal.S10000x128 .f32) (s : Fin 10000) (d : Fin 128) :
    (concatenate Cert.ReferenceIdeal.S10000x256 1 [⟨Cert.ReferenceIdeal.S10000x128, A⟩, ⟨Cert.ReferenceIdeal.S10000x128, B⟩]
      Cert.ReferenceIdeal.Facts₀.concatenates_S10000x128_S10000x128_S10000x256_d1 : FVec Ideal Cert.ReferenceIdeal.S10000x256 .f32)
      (ix2 (n0 := 10000) (n1 := 256) s ⟨d.val, by omega⟩) = A (ix2 (n0 := 10000) (n1 := 128) s d) := by
  pointwise []

theorem cat_right (A B : FVec Ideal Cert.ReferenceIdeal.S10000x128 .f32) (s : Fin 10000) (d : Fin 128) :
    (concatenate Cert.ReferenceIdeal.S10000x256 1 [⟨Cert.ReferenceIdeal.S10000x128, A⟩, ⟨Cert.ReferenceIdeal.S10000x128, B⟩]
      Cert.ReferenceIdeal.Facts₀.concatenates_S10000x128_S10000x128_S10000x256_d1 : FVec Ideal Cert.ReferenceIdeal.S10000x256 .f32)
      (ix2 (n0 := 10000) (n1 := 256) s ⟨128 + d.val, by omega⟩) = B (ix2 (n0 := 10000) (n1 := 128) s d) := by
  pointwise []

/-- The two results are one array. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_KernelIdeal_sorted_finite (hPre_sorted_finite := Pre.sortedFacts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (y : Cert.KernelIdeal.S10000x256.Idx) :
    (Cert.ReferenceIdeal.Value.res_main_v37 m' c : Cert.KernelIdeal.S10000x256.Idx → EReal) y
      = ((KI.dats m 0 c).arrAt 5 (Cert.KernelIdeal.cfg0 (F := Ideal)).N : Cert.KernelIdeal.S10000x256.Idx → EReal) y := by
  have hp' := Pre.sorted_parts (hPre := Pre.sortedFacts) _ _ _ _ (hp c)
  obtain ⟨hr, hs, f0, f2, f3⟩ := hp'
  have hres := congrFun (Ref.res_eq m' c) y
  rw [h0, h1, h2, h3] at hres
  refine hres.trans ?_
  refine Eq.trans ?_ (KI.arr_final m c y).symm
  have hseg : ∀ n, KI.seg m c n < 10000 := fun n => hr _
  have hid : ∀ i, (KI.ids m c i).toNat < 10000 := fun i => hr i
  have hmono : ∀ n n', n ≤ n' → KI.seg m c n ≤ KI.seg m c n' := mono_of _ fun n hn =>
    (KI.sle_iff _ _ ((hid _).trans (by decide)) ((hid _).trans (by decide))).mp (hs n hn)
  have e0 := fun j => real_of _ (f0 j)
  have e2 := fun j => real_of _ (f2 j)
  have e3 := fun j => real_of _ (f3 j)
  obtain ⟨s, j, rfl⟩ : ∃ (s : Fin 10000) (j : Fin 256), y = ix2 s j := ⟨y 0, y 1, eq_ix2 y⟩
  by_cases hj : j.val < 128
  · obtain ⟨d, hd, rfl⟩ : ∃ (d : Fin 128) (hd : d.val < 256), j = ⟨d.val, hd⟩ := ⟨⟨j.val, hj⟩, j.isLt, rfl⟩
    refine (cat_left _ _ s d).trans ?_
    refine Eq.trans ?_ (KI.resOf_left _ s d).symm
    refine Eq.trans ?_ (kernel_mean m c _ _ _ (fun n k => e0 (ValueIdx.ix2 n k)) (fun d k => e2 (ValueIdx.ix2 d k)) (fun d => e3 (ValueIdx.ix1 d)) hseg hmono s d).symm
    exact Ref.meanV_apply _ _ _ _ _ _ _ (fun n k => e0 (ValueIdx.ix2 n k)) (fun d k => e2 (ValueIdx.ix2 d k)) (fun d => e3 (ValueIdx.ix1 d)) (fun n => hr _) s d
  · obtain ⟨d, hd, rfl⟩ : ∃ (d : Fin 128) (hd : 128 + d.val < 256), j = ⟨128 + d.val, hd⟩ :=
      ⟨⟨j.val - 128, by omega⟩, (by show 128 + (j.val - 128) < 256; omega), Fin.ext (by show j.val = 128 + (j.val - 128); omega)⟩
    refine (cat_right _ _ s d).trans ?_
    refine Eq.trans ?_ (KI.resOf_right _ s d).symm
    refine Eq.trans ?_ (kernel_std m c _ _ _ (fun n k => e0 (ValueIdx.ix2 n k)) (fun d k => e2 (ValueIdx.ix2 d k)) (fun d => e3 (ValueIdx.ix1 d)) hseg hmono s d).symm
    exact Ref.stdV_apply _ _ _ _ _ _ _ (fun n k => e0 (ValueIdx.ix2 n k)) (fun d k => e2 (ValueIdx.ix2 d k)) (fun d => e3 (ValueIdx.ix1 d)) (fun n => hr _) s d

/-- The value claim. -/
theorem algebraic : Cert.algebraic_KernelIdeal_ReferenceIdeal_pre_sorted_finite (hKernelIdeal := Cert.KernelIdeal.Gen.facts)
    (hReferenceIdeal := Cert.ReferenceIdeal.Gen.facts) (hPre_sorted_finite := Pre.sortedFacts) := by
  intro m g m' g' hp hargs
  have hw : KI.WordsOk m := KI.words_ok m fun c j => (Pre.sorted_parts (hPre := Pre.sortedFacts) _ _ _ _ (hp c)).1 j
  refine ⟨fun c => (KI.dats m 0 c).arrAt 5 (Cert.KernelIdeal.cfg0 (F := Ideal)).N, ?_, ?_⟩
  · exact (θ_run Cert.KernelIdeal.defs _ _).mono (fun r h c => ⟨h.1 c, h.2.1 c⟩) (θ_run_and (KI.value_run m g hw) (KI.frame_run m g hw))
  · refine (θ_run Cert.ReferenceIdeal.defs _ _).mono (fun r h c => ⟨(h c).1.trans ?_, (h c).2⟩) (Cert.ReferenceIdeal.Value.run m' g')
    obtain ⟨h0, h1, h2, h3⟩ := hargs c
    exact funext fun y => value_eq m m' c hp h0 h1 h2 h3 y

end Cert.Proof

end
-- ==== Proof.lean ====
module

public import proofs.«01_k».proof.Defs
public import proofs.«01_k».proof.Proof.Frames
public import proofs.«01_k».proof.Proof.RefFrame
public import proofs.«01_k».proof.Proof.Algebraic

@[expose] public section

noncomputable section

namespace Cert.Proof

open Idealize.ShloMosaic Idealize.SL.Sem

/-- All the claims of the certificate. -/
theorem claim : Cert.Claim :=
  ⟨Cert.Kernel.Gen.facts, Cert.KernelIdeal.Gen.facts, Cert.ReferenceIdeal.Gen.facts, Pre.rangeFacts,
    Pre.sortedFacts, frame_kernel, frame_ideal, frame_ideal_sorted, fun m g _ => ref_frame m g, fun m g _ => ref_frame m g, trivial,
    algebraic⟩

end Cert.Proof

end
